-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity_and_no_target_on_the_unit_box [hPre_logits_below_infinity_and_no_target_on_the_unit_box : Cert.Pre_logits_below_infinity_and_no_target_on_the_unit_box.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity_and_no_target_on_the_unit_box.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_logits_below_infinity_and_no_target_on_the_unit_box.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity_and_no_target_on_the_unit_box [hPre_logits_below_infinity_and_no_target_on_the_unit_box : Cert.Pre_logits_below_infinity_and_no_target_on_the_unit_box.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity_and_no_target_on_the_unit_box.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_logits_below_infinity_and_no_target_on_the_unit_box.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_below_infinity_and_no_target_on_the_unit_box [hKernelIdeal : Cert.KernelIdeal.Facts] [hPre_logits_below_infinity_and_no_target_on_the_unit_box : Cert.Pre_logits_below_infinity_and_no_target_on_the_unit_box.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity_and_no_target_on_the_unit_box m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_below_infinity_and_no_target_on_the_unit_box [hReferenceIdeal : Cert.ReferenceIdeal.Facts] [hPre_logits_below_infinity_and_no_target_on_the_unit_box : Cert.Pre_logits_below_infinity_and_no_target_on_the_unit_box.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity_and_no_target_on_the_unit_box m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_logits_below_infinity_and_no_target_on_the_unit_box [hKernelIdeal : Cert.KernelIdeal.Facts] [hReferenceIdeal : Cert.ReferenceIdeal.Facts] [hPre_logits_below_infinity_and_no_target_on_the_unit_box : Cert.Pre_logits_below_infinity_and_no_target_on_the_unit_box.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity_and_no_target_on_the_unit_box m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_logits_below_infinity_and_no_target_on_the_unit_box : Cert.Pre_logits_below_infinity_and_no_target_on_the_unit_box.Facts),
    quiescent_Kernel (hKernel := hKernel)
    ∧ quiescent_KernelIdeal (hKernelIdeal := hKernelIdeal)
    ∧ quiescent_KernelIdeal_pre_logits_below_infinity_and_no_target_on_the_unit_box (hKernelIdeal := hKernelIdeal) (hPre_logits_below_infinity_and_no_target_on_the_unit_box := hPre_logits_below_infinity_and_no_target_on_the_unit_box)
    ∧ quiescent_ReferenceIdeal (hReferenceIdeal := hReferenceIdeal)
    ∧ quiescent_ReferenceIdeal_pre_logits_below_infinity_and_no_target_on_the_unit_box (hReferenceIdeal := hReferenceIdeal) (hPre_logits_below_infinity_and_no_target_on_the_unit_box := hPre_logits_below_infinity_and_no_target_on_the_unit_box)
    ∧ preserves_Kernel_KernelIdeal
    ∧ algebraic_KernelIdeal_ReferenceIdeal_pre_logits_below_infinity_and_no_target_on_the_unit_box (hKernelIdeal := hKernelIdeal) (hReferenceIdeal := hReferenceIdeal) (hPre_logits_below_infinity_and_no_target_on_the_unit_box := hPre_logits_below_infinity_and_no_target_on_the_unit_box)
-- ==== Pre_logits_below_infinity_and_no_target_on_the_unit_box.lean ====
abbrev S8x50000x80 : Shape := ⟨3, ![8, 50000, 80]⟩
abbrev S8x50000x4 : Shape := ⟨3, ![8, 50000, 4]⟩
abbrev S50000x4 : Shape := ⟨2, ![50000, 4]⟩
abbrev S8x64x4 : Shape := ⟨3, ![8, 64, 4]⟩
abbrev S8x64 : Shape := ⟨2, ![8, 64]⟩
abbrev S8x64x1 : Shape := ⟨3, ![8, 64, 1]⟩
abbrev S_ : Shape := ⟨0, ![]⟩

class Facts : Prop where
  slices_S8x64x4_S8x64x1_0_0_0 : S8x64x4.Slices ![0, 0, 0] S8x64x1
  shapeCasts_S8x64x1_S8x64 : S8x64x1.ShapeCasts S8x64
  slices_S8x64x4_S8x64x1_0_0_1 : S8x64x4.Slices ![0, 0, 1] S8x64x1
  slices_S8x64x4_S8x64x1_0_0_2 : S8x64x4.Slices ![0, 0, 2] S8x64x1
  slices_S8x64x4_S8x64x1_0_0_3 : S8x64x4.Slices ![0, 0, 3] S8x64x1
  bcast_S_S8x64 : S_.BroadcastsInDim S8x64 (![] : Fin 0 → Fin S8x64.rank)
  bcast_S_S8x50000x80 : S_.BroadcastsInDim S8x50000x80 (![] : Fin 0 → Fin S8x50000x80.rank)

variable [Facts]

def fn_part1 {F : FTy → Type} [FloatOps F] (main_arg0 : FVec F S8x50000x80 .f32) (main_v1 : FVec F S8x64 .f32) (main_v3 : FVec F S8x64 .f32) (main_v5 : FVec F S8x64 .f32) (main_v7 : FVec F S8x64 .f32) (main_v14 : FVec F S8x64 .f32) (main_v16 : FVec F S8x64 .f32) (main_v18 : FVec F S8x64 .f32) : IVec S8x50000x80 1 × IVec S8x64 1 :=
  let main_v19 : FVec F S8x64 .f32 := subf main_v16 main_v18
  let main_cst_4 : FVec F S_ .f32 := constant S_ .f32 0x00000000#32
  let main_v20 : FVec F S8x64 .f32 := broadcastInDim S8x64 ![] bcast_S_S8x64 main_cst_4
  let main_v21 : FVec F S8x64 .f32 := maximumf main_v19 main_v20
  let main_v22 : FVec F S8x64 .f32 := mulf main_v14 main_v21
  let main_v23 : FVec F S8x64 .f32 := subf main_v5 main_v1
  let main_v24 : FVec F S8x64 .f32 := subf main_v7 main_v3
  let main_v25 : FVec F S8x64 .f32 := mulf main_v23 main_v24
  let main_cst_5 : FVec F S_ .f32 := constant S_ .f32 0x3F800000#32
  let main_v26 : FVec F S8x64 .f32 := broadcastInDim S8x64 ![] bcast_S_S8x64 main_cst_5
  let main_v27 : FVec F S8x64 .f32 := addf main_v26 main_v25
  let main_v28 : FVec F S8x64 .f32 := subf main_v27 main_v22
  let main_cst_6 : FVec F S_ .f32 := constant S_ .f32 0x7F800000#32
  let main_v29 : FVec F S8x50000x80 .f32 := broadcastInDim S8x50000x80 ![] bcast_S_S8x50000x80 main_cst_6
  let main_v30 : IVec S8x50000x80 1 := cmpf .olt main_arg0 main_v29
  let main_cst_7 : FVec F S_ .f32 := constant S_ .f32 0x358637BD#32
  let main_v31 : FVec F S8x64 .f32 := broadcastInDim S8x64 ![] bcast_S_S8x64 main_cst_7
  let main_v32 : FVec F S8x64 .f32 := addf main_v28 main_v31
  let main_v33 : FVec F S8x64 .f32 := Host.divf main_v22 main_v32
  let main_cst_8 : FVec F S_ .f32 := constant S_ .f32 0x3F000000#32
  let main_v34 : FVec F S8x64 .f32 := broadcastInDim S8x64 ![] bcast_S_S8x64 main_cst_8
  let main_v35 : IVec S8x64 1 := cmpf .olt main_v33 main_v34
  (main_v30, main_v35)

def fn {F : FTy → Type} [FloatOps F] (main_arg0 : FVec F S8x50000x80 .f32) (main_arg1 : FVec F S8x50000x4 .f32) (main_arg2 : FVec F S50000x4 .f32) (main_arg3 : FVec F S8x64x4 .f32) (main_arg4 : IVec S8x64 32) : IVec S8x50000x80 1 × IVec S8x64 1 :=
  let main_v0 : FVec F S8x64x1 .f32 := (extractStridedSlice S8x64x1 ![0, 0, 0] · slices_S8x64x4_S8x64x1_0_0_0) main_arg3
  let main_v1 : FVec F S8x64 .f32 := shapeCast S8x64 main_v0 shapeCasts_S8x64x1_S8x64
  let main_v2 : FVec F S8x64x1 .f32 := (extractStridedSlice S8x64x1 ![0, 0, 1] · slices_S8x64x4_S8x64x1_0_0_1) main_arg3
  let main_v3 : FVec F S8x64 .f32 := shapeCast S8x64 main_v2 shapeCasts_S8x64x1_S8x64
  let main_v4 : FVec F S8x64x1 .f32 := (extractStridedSlice S8x64x1 ![0, 0, 2] · slices_S8x64x4_S8x64x1_0_0_2) main_arg3
  let main_v5 : FVec F S8x64 .f32 := shapeCast S8x64 main_v4 shapeCasts_S8x64x1_S8x64
  let main_v6 : FVec F S8x64x1 .f32 := (extractStridedSlice S8x64x1 ![0, 0, 3] · slices_S8x64x4_S8x64x1_0_0_3) main_arg3
  let main_v7 : FVec F S8x64 .f32 := shapeCast S8x64 main_v6 shapeCasts_S8x64x1_S8x64
  let main_cst : FVec F S_ .f32 := constant S_ .f32 0x3F800000#32
  let main_v8 : FVec F S8x64 .f32 := broadcastInDim S8x64 ![] bcast_S_S8x64 main_cst
  let main_v9 : FVec F S8x64 .f32 := minimumf main_v5 main_v8
  let main_cst_0 : FVec F S_ .f32 := constant S_ .f32 0x00000000#32
  let main_v10 : FVec F S8x64 .f32 := broadcastInDim S8x64 ![] bcast_S_S8x64 main_cst_0
  let main_v11 : FVec F S8x64 .f32 := maximumf main_v1 main_v10
  let main_v12 : FVec F S8x64 .f32 := subf main_v9 main_v11
  let main_cst_1 : FVec F S_ .f32 := constant S_ .f32 0x00000000#32
  let main_v13 : FVec F S8x64 .f32 := broadcastInDim S8x64 ![] bcast_S_S8x64 main_cst_1
  let main_v14 : FVec F S8x64 .f32 := maximumf main_v12 main_v13
  let main_cst_2 : FVec F S_ .f32 := constant S_ .f32 0x3F800000#32
  let main_v15 : FVec F S8x64 .f32 := broadcastInDim S8x64 ![] bcast_S_S8x64 main_cst_2
  let main_v16 : FVec F S8x64 .f32 := minimumf main_v7 main_v15
  let main_cst_3 : FVec F S_ .f32 := constant S_ .f32 0x00000000#32
  let main_v17 : FVec F S8x64 .f32 := broadcastInDim S8x64 ![] bcast_S_S8x64 main_cst_3
  let main_v18 : FVec F S8x64 .f32 := maximumf main_v3 main_v17
  fn_part1 (F := F) main_arg0 main_v1 main_v3 main_v5 main_v7 main_v14 main_v16 main_v18
-- ==== Kernel.lean ====
abbrev S8x50000x80 : Shape := ⟨3, ![8, 50000, 80]⟩
abbrev S8x50000x4 : Shape := ⟨3, ![8, 50000, 4]⟩
abbrev S50000x4 : Shape := ⟨2, ![50000, 4]⟩
abbrev S8x64x4 : Shape := ⟨3, ![8, 64, 4]⟩
abbrev S8x64 : Shape := ⟨2, ![8, 64]⟩
abbrev S4 : Shape := ⟨1, ![4]⟩
abbrev S4x50000 : Shape := ⟨2, ![4, 50000]⟩
abbrev S4x1 : Shape := ⟨2, ![4, 1]⟩
abbrev S4x1200 : Shape := ⟨2, ![4, 1200]⟩
abbrev S4x51200 : Shape := ⟨2, ![4, 51200]⟩
abbrev S4x400x128 : Shape := ⟨3, ![4, 400, 128]⟩
abbrev S8x4x50000 : Shape := ⟨3, ![8, 4, 50000]⟩
abbrev S_ : Shape := ⟨0, ![]⟩
abbrev S8x4x1200 : Shape := ⟨3, ![8, 4, 1200]⟩
abbrev S8x4x51200 : Shape := ⟨3, ![8, 4, 51200]⟩
abbrev S8x4x400x128 : Shape := ⟨4, ![8, 4, 400, 128]⟩
abbrev S8x4x64 : Shape := ⟨3, ![8, 4, 64]⟩
abbrev S8x1x64 : Shape := ⟨3, ![8, 1, 64]⟩
abbrev S8x5x64 : Shape := ⟨3, ![8, 5, 64]⟩
abbrev S8x400x128 : Shape := ⟨3, ![8, 400, 128]⟩
abbrev S8x1x128 : Shape := ⟨3, ![8, 1, 128]⟩
abbrev S8x51200 : Shape := ⟨2, ![8, 51200]⟩
abbrev S8x50000 : Shape := ⟨2, ![8, 50000]⟩
abbrev S8x50000x1 : Shape := ⟨3, ![8, 50000, 1]⟩
abbrev S8x1x1 : Shape := ⟨3, ![8, 1, 1]⟩
abbrev S8 : Shape := ⟨1, ![8]⟩
abbrev S1x5x64 : Shape := ⟨3, ![1, 5, 64]⟩
abbrev S4x16x128 : Shape := ⟨3, ![4, 16, 128]⟩
abbrev S1x4x16x128 : Shape := ⟨4, ![1, 4, 16, 128]⟩
abbrev S1x16x128 : Shape := ⟨3, ![1, 16, 128]⟩
abbrev S1x1x128 : Shape := ⟨3, ![1, 1, 128]⟩
abbrev S16x128 : Shape := ⟨2, ![16, 128]⟩
abbrev S1x1x1 : Shape := ⟨3, ![1, 1, 1]⟩
abbrev S1x1x16x128 : Shape := ⟨4, ![1, 1, 16, 128]⟩
abbrev S1 : Shape := ⟨1, ![1]⟩
abbrev S1x2000x80 : Shape := ⟨3, ![1, 2000, 80]⟩
abbrev S1x2000x1 : Shape := ⟨3, ![1, 2000, 1]⟩
abbrev S2000x80 : Shape := ⟨2, ![2000, 80]⟩
abbrev S2000x1 : Shape := ⟨2, ![2000, 1]⟩

abbrev nBuf : Space → Nat
  | .hbm => 46
  | .vmem => 14
  | .smem => 2
  | _ => 0

abbrev bufTy : (tb : Table) → Fin (tcTables nBuf tb) → BufTy
  | .hbm, ⟨0, _⟩ => ⟨S8x50000x80, .f32⟩
  | .hbm, ⟨1, _⟩ => ⟨S8x50000x4, .f32⟩
  | .hbm, ⟨2, _⟩ => ⟨S50000x4, .f32⟩
  | .hbm, ⟨3, _⟩ => ⟨S8x64x4, .f32⟩
  | .hbm, ⟨4, _⟩ => ⟨S8x64, .i32⟩
  | .hbm, ⟨5, _⟩ => ⟨S4, .f32⟩
  | .hbm, ⟨6, _⟩ => ⟨S4x50000, .f32⟩
  | .hbm, ⟨7, _⟩ => ⟨S4x1, .f32⟩
  | .hbm, ⟨8, _⟩ => ⟨S4x1200, .f32⟩
  | .hbm, ⟨9, _⟩ => ⟨S4x51200, .f32⟩
  | .hbm, ⟨10, _⟩ => ⟨S4x400x128, .f32⟩
  | .hbm, ⟨11, _⟩ => ⟨S8x4x50000, .f32⟩
  | .hbm, ⟨12, _⟩ => ⟨S_, .f32⟩
  | .hbm, ⟨13, _⟩ => ⟨S8x4x1200, .f32⟩
  | .hbm, ⟨14, _⟩ => ⟨S8x4x51200, .f32⟩
  | .hbm, ⟨15, _⟩ => ⟨S8x4x400x128, .f32⟩
  | .hbm, ⟨16, _⟩ => ⟨S8x4x64, .f32⟩
  | .hbm, ⟨17, _⟩ => ⟨S8x64, .f32⟩
  | .hbm, ⟨18, _⟩ => ⟨S8x1x64, .f32⟩
  | .hbm, ⟨19, _⟩ => ⟨S8x5x64, .f32⟩
  | .hbm, ⟨20, _⟩ => ⟨S8x400x128, .f32⟩
  | .hbm, ⟨21, _⟩ => ⟨S8x1x128, .f32⟩
  | .hbm, ⟨22, _⟩ => ⟨S8x51200, .f32⟩
  | .hbm, ⟨23, _⟩ => ⟨S8x50000, .f32⟩
  | .hbm, ⟨24, _⟩ => ⟨S8x50000x1, .f32⟩
  | .hbm, ⟨25, _⟩ => ⟨S8x1x128, .f32⟩
  | .hbm, ⟨26, _⟩ => ⟨S8x1x1, .f32⟩
  | .hbm, ⟨27, _⟩ => ⟨S8, .f32⟩
  | .hbm, ⟨28, _⟩ => ⟨S8x1x1, .f32⟩
  | .hbm, ⟨29, _⟩ => ⟨S8, .f32⟩
  | .hbm, ⟨30, _⟩ => ⟨S8x1x1, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S4x16x128, .f32⟩
  | .local _ .vmem, ⟨1, _⟩ => ⟨S4x16x128, .f32⟩
  | .local _ .vmem, ⟨2, _⟩ => ⟨S1x4x16x128, .f32⟩
  | .local _ .vmem, ⟨3, _⟩ => ⟨S1x4x16x128, .f32⟩
  | .local _ .vmem, ⟨4, _⟩ => ⟨S1x16x128, .f32⟩
  | .local _ .vmem, ⟨5, _⟩ => ⟨S1x16x128, .f32⟩
  | .local _ .vmem, ⟨6, _⟩ => ⟨S1x1x128, .f32⟩
  | .local _ .vmem, ⟨7, _⟩ => ⟨S1x1x128, .f32⟩
  | .local _ .vmem, ⟨8, _⟩ => ⟨S1x2000x80, .f32⟩
  | .local _ .vmem, ⟨9, _⟩ => ⟨S1x2000x80, .f32⟩
  | .local _ .vmem, ⟨10, _⟩ => ⟨S1x2000x1, .f32⟩
  | .local _ .vmem, ⟨11, _⟩ => ⟨S1x2000x1, .f32⟩
  | .local _ .vmem, ⟨12, _⟩ => ⟨S1x1x128, .f32⟩
  | .local _ .vmem, ⟨13, _⟩ => ⟨S1x1x128, .f32⟩
  | .local _ .smem, ⟨0, _⟩ => ⟨S1x5x64, .f32⟩
  | .local _ .smem, ⟨1, _⟩ => ⟨S1x5x64, .f32⟩
  | _, _ => ⟨S8x50000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst_0 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13_0 : Ref sig .tc := ⟨.hbm, 20, rfl⟩
abbrev main_call0_v13_1 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_cst_1 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_cst_2 : Ref sig .tc := ⟨.hbm, 36, rfl⟩
abbrev main_call0_v27 : Ref sig .tc := ⟨.hbm, 37, rfl⟩
abbrev main_call0_cst_3 : Ref sig .tc := ⟨.hbm, 38, rfl⟩
abbrev main_v0_1 : Ref sig .tc := ⟨.hbm, 39, rfl⟩
abbrev main_call0_v29 : Ref sig .tc := ⟨.hbm, 40, rfl⟩
abbrev main_call0_cst_4 : Ref sig .tc := ⟨.hbm, 41, rfl⟩
abbrev main_call0_v30 : Ref sig .tc := ⟨.hbm, 42, rfl⟩
abbrev main_call0_cst_5 : Ref sig .tc := ⟨.hbm, 43, rfl⟩
abbrev main_v0_2 : Ref sig .tc := ⟨.hbm, 44, rfl⟩
abbrev main_v0_0 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x5x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S8x50000x80 : Shape := ⟨3, ![8, 50000, 80]⟩
abbrev S8x50000x4 : Shape := ⟨3, ![8, 50000, 4]⟩
abbrev S50000x4 : Shape := ⟨2, ![50000, 4]⟩
abbrev S8x64x4 : Shape := ⟨3, ![8, 64, 4]⟩
abbrev S8x64 : Shape := ⟨2, ![8, 64]⟩
abbrev S50000x1 : Shape := ⟨2, ![50000, 1]⟩
abbrev S50000 : Shape := ⟨1, ![50000]⟩
abbrev S8x64x1 : Shape := ⟨3, ![8, 64, 1]⟩
abbrev S50000x2 : Shape := ⟨2, ![50000, 2]⟩
abbrev S50000x1x2 : Shape := ⟨3, ![50000, 1, 2]⟩
abbrev S8x64x2 : Shape := ⟨3, ![8, 64, 2]⟩
abbrev S8x1x64x2 : Shape := ⟨4, ![8, 1, 64, 2]⟩
abbrev S1x50000x1x2 : Shape := ⟨4, ![1, 50000, 1, 2]⟩
abbrev S8x50000x64x2 : Shape := ⟨4, ![8, 50000, 64, 2]⟩
abbrev S_ : Shape := ⟨0, ![]⟩
abbrev S8x50000x64x1 : Shape := ⟨4, ![8, 50000, 64, 1]⟩
abbrev S8x50000x64 : Shape := ⟨3, ![8, 50000, 64]⟩
abbrev S8x1x64 : Shape := ⟨3, ![8, 1, 64]⟩
abbrev S1x50000x1 : Shape := ⟨3, ![1, 50000, 1]⟩
abbrev S8x50000 : Shape := ⟨2, ![8, 50000]⟩
abbrev S50000x64 : Shape := ⟨2, ![50000, 64]⟩
abbrev S8x50000x1 : Shape := ⟨3, ![8, 50000, 1]⟩
abbrev S8 : Shape := ⟨1, ![8]⟩
abbrev S1 : Shape := ⟨1, ![1]⟩
abbrev S1x1x1 : Shape := ⟨3, ![1, 1, 1]⟩
abbrev S1x80 : Shape := ⟨2, ![1, 80]⟩
abbrev S1x1x80 : Shape := ⟨3, ![1, 1, 80]⟩
abbrev S50000x80 : Shape := ⟨2, ![50000, 80]⟩
abbrev S1x50000 : Shape := ⟨2, ![1, 50000]⟩

abbrev nBuf : Space → Nat
  | .hbm => 307
  | .vmem => 0
  | .smem => 0
  | _ => 0

abbrev hbmTy0_0 (i : Nat) : BufTy := match i % 128 with
  | 0 => ⟨S8x50000x80, .f32⟩
  | 1 => ⟨S8x50000x4, .f32⟩
  | 2 => ⟨S50000x4, .f32⟩
  | 3 => ⟨S8x64x4, .f32⟩
  | 4 => ⟨S8x64, .i32⟩
  | 5 => ⟨S50000x1, .f32⟩
  | 6 => ⟨S50000, .f32⟩
  | 7 => ⟨S50000x1, .f32⟩
  | 8 => ⟨S50000, .f32⟩
  | 9 => ⟨S50000, .f32⟩
  | 10 => ⟨S50000x1, .f32⟩
  | 11 => ⟨S50000, .f32⟩
  | 12 => ⟨S50000x1, .f32⟩
  | 13 => ⟨S50000, .f32⟩
  | 14 => ⟨S50000, .f32⟩
  | 15 => ⟨S50000, .f32⟩
  | 16 => ⟨S8x64x1, .f32⟩
  | 17 => ⟨S8x64, .f32⟩
  | 18 => ⟨S8x64x1, .f32⟩
  | 19 => ⟨S8x64, .f32⟩
  | 20 => ⟨S8x64, .f32⟩
  | 21 => ⟨S8x64x1, .f32⟩
  | 22 => ⟨S8x64, .f32⟩
  | 23 => ⟨S8x64x1, .f32⟩
  | 24 => ⟨S8x64, .f32⟩
  | 25 => ⟨S8x64, .f32⟩
  | 26 => ⟨S8x64, .f32⟩
  | 27 => ⟨S50000x2, .f32⟩
  | 28 => ⟨S50000x1x2, .f32⟩
  | 29 => ⟨S8x64x2, .f32⟩
  | 30 => ⟨S8x1x64x2, .f32⟩
  | 31 => ⟨S1x50000x1x2, .f32⟩
  | 32 => ⟨S8x50000x64x2, .f32⟩
  | 33 => ⟨S8x50000x64x2, .f32⟩
  | 34 => ⟨S8x50000x64x2, .f32⟩
  | 35 => ⟨S50000x2, .f32⟩
  | 36 => ⟨S50000x1x2, .f32⟩
  | 37 => ⟨S8x64x2, .f32⟩
  | 38 => ⟨S8x1x64x2, .f32⟩
  | 39 => ⟨S1x50000x1x2, .f32⟩
  | 40 => ⟨S8x50000x64x2, .f32⟩
  | 41 => ⟨S8x50000x64x2, .f32⟩
  | 42 => ⟨S8x50000x64x2, .f32⟩
  | 43 => ⟨S8x50000x64x2, .f32⟩
  | 44 => ⟨S_, .f32⟩
  | 45 => ⟨S_, .f32⟩
  | 46 => ⟨S8x50000x64x2, .f32⟩
  | 47 => ⟨S8x50000x64x2, .f32⟩
  | 48 => ⟨S8x50000x64x1, .f32⟩
  | 49 => ⟨S8x50000x64, .f32⟩
  | 50 => ⟨S8x50000x64x1, .f32⟩
  | 51 => ⟨S8x50000x64, .f32⟩
  | 52 => ⟨S8x50000x64, .f32⟩
  | 53 => ⟨S50000x1, .f32⟩
  | 54 => ⟨S8x1x64, .f32⟩
  | 55 => ⟨S1x50000x1, .f32⟩
  | 56 => ⟨S8x50000x64, .f32⟩
  | 57 => ⟨S8x50000x64, .f32⟩
  | 58 => ⟨S8x50000x64, .f32⟩
  | 59 => ⟨S8x50000x64, .f32⟩
  | 60 => ⟨S_, .f32⟩
  | 61 => ⟨S8x50000x64, .f32⟩
  | 62 => ⟨S8x50000x64, .f32⟩
  | 63 => ⟨S8x50000x64, .f32⟩
  | 64 => ⟨S_, .f32⟩
  | 65 => ⟨S8x50000, .f32⟩
  | 66 => ⟨S50000x64, .i32⟩
  | 67 => ⟨S8x50000x1, .f32⟩
  | 68 => ⟨S8x50000x64, .f32⟩
  | 69 => ⟨S8x50000x64, .i1⟩
  | 70 => ⟨S_, .i32⟩
  | 71 => ⟨S_, .i32⟩
  | 72 => ⟨S50000x64, .i32⟩
  | 73 => ⟨S8x50000x64, .i32⟩
  | 74 => ⟨S8x50000x64, .i32⟩
  | 75 => ⟨S8x50000x64, .i32⟩
  | 76 => ⟨S_, .i32⟩
  | 77 => ⟨S8x50000, .i32⟩
  | 78 => ⟨S_, .f32⟩
  | 79 => ⟨S8x50000, .f32⟩
  | 80 => ⟨S8x50000, .i1⟩
  | 81 => ⟨S8x50000, .f32⟩
  | 82 => ⟨S_, .f32⟩
  | 83 => ⟨S8, .f32⟩
  | 84 => ⟨S_, .i32⟩
  | 85 => ⟨S8x50000, .i32⟩
  | 86 => ⟨S8x50000, .i1⟩
  | 87 => ⟨S_, .i32⟩
  | 88 => ⟨S8x50000, .i32⟩
  | 89 => ⟨S8x50000, .i32⟩
  | 90 => ⟨S8x50000, .i32⟩
  | 91 => ⟨S8x50000x1, .i32⟩
  | 92 => ⟨S1, .i32⟩
  | 93 => ⟨S_, .i32⟩
  | 94 => ⟨S8x50000x1, .i32⟩
  | 95 => ⟨S8x50000x1, .i1⟩
  | 96 => ⟨S1x1x1, .i32⟩
  | 97 => ⟨S8x50000x1, .i32⟩
  | 98 => ⟨S8x50000x1, .i1⟩
  | 99 => ⟨S8x50000x1, .i1⟩
  | 100 => ⟨S_, .i1⟩
  | 101 => ⟨S8x50000, .i1⟩
  | 102 => ⟨S8x50000, .i32⟩
  | 103 => ⟨S_, .i32⟩
  | 104 => ⟨S8x50000, .i32⟩
  | 105 => ⟨S8x50000, .i32⟩
  | 106 => ⟨S8x50000x1, .i32⟩
  | 107 => ⟨S1x80, .i32⟩
  | 108 => ⟨S1x1x80, .i32⟩
  | 109 => ⟨S8x50000x80, .i32⟩
  | 110 => ⟨S8x50000x80, .i32⟩
  | 111 => ⟨S8x50000x80, .i1⟩
  | 112 => ⟨S8x50000x80, .f32⟩
  | 113 => ⟨S8x50000x1, .f32⟩
  | 114 => ⟨S8x50000x80, .f32⟩
  | 115 => ⟨S8x50000x80, .f32⟩
  | 116 => ⟨S8x50000x80, .f32⟩
  | 117 => ⟨S8x50000x80, .f32⟩
  | 118 => ⟨S_, .f32⟩
  | 119 => ⟨S8x50000x80, .f32⟩
  | 120 => ⟨S8x50000x80, .f32⟩
  | 121 => ⟨S_, .f32⟩
  | 122 => ⟨S8x50000x80, .f32⟩
  | 123 => ⟨S8x50000x80, .f32⟩
  | 124 => ⟨S_, .f32⟩
  | 125 => ⟨S8x50000x80, .f32⟩
  | 126 => ⟨S8x50000x80, .i1⟩
  | 127 => ⟨S_, .f32⟩
  | _ => ⟨S8x50000x80, .f32⟩

abbrev hbmTy0_1 (i : Nat) : BufTy := match i % 128 with
  | 0 => ⟨S8x50000x80, .f32⟩
  | 1 => ⟨S8x50000x80, .f32⟩
  | 2 => ⟨S8x50000x80, .f32⟩
  | 3 => ⟨S_, .f32⟩
  | 4 => ⟨S8x50000x80, .f32⟩
  | 5 => ⟨S8x50000x80, .i1⟩
  | 6 => ⟨S_, .f32⟩
  | 7 => ⟨S_, .f32⟩
  | 8 => ⟨S50000x80, .f32⟩
  | 9 => ⟨S50000x80, .f32⟩
  | 10 => ⟨S8x50000x80, .f32⟩
  | 11 => ⟨S8x50000x80, .f32⟩
  | 12 => ⟨S8x50000x80, .f32⟩
  | 13 => ⟨S_, .f32⟩
  | 14 => ⟨S8x50000x80, .f32⟩
  | 15 => ⟨S8x50000x80, .f32⟩
  | 16 => ⟨S_, .f32⟩
  | 17 => ⟨S8x50000x80, .f32⟩
  | 18 => ⟨S8x50000x80, .f32⟩
  | 19 => ⟨S8x50000x80, .f32⟩
  | 20 => ⟨S8x50000x80, .f32⟩
  | 21 => ⟨S_, .f32⟩
  | 22 => ⟨S8x50000x80, .f32⟩
  | 23 => ⟨S8x50000x80, .f32⟩
  | 24 => ⟨S8x50000x80, .f32⟩
  | 25 => ⟨S8x50000x80, .f32⟩
  | 26 => ⟨S8x50000x80, .f32⟩
  | 27 => ⟨S8x50000x80, .f32⟩
  | 28 => ⟨S8x50000x80, .f32⟩
  | 29 => ⟨S8x50000x80, .f32⟩
  | 30 => ⟨S8x50000x80, .f32⟩
  | 31 => ⟨S8x50000x80, .f32⟩
  | 32 => ⟨S_, .f32⟩
  | 33 => ⟨S8, .f32⟩
  | 34 => ⟨S_, .f32⟩
  | 35 => ⟨S8, .f32⟩
  | 36 => ⟨S8, .f32⟩
  | 37 => ⟨S8, .f32⟩
  | 38 => ⟨S50000x1, .f32⟩
  | 39 => ⟨S50000, .f32⟩
  | 40 => ⟨S50000x1, .f32⟩
  | 41 => ⟨S50000, .f32⟩
  | 42 => ⟨S50000, .f32⟩
  | 43 => ⟨S50000x1, .f32⟩
  | 44 => ⟨S50000, .f32⟩
  | 45 => ⟨S50000x1, .f32⟩
  | 46 => ⟨S50000, .f32⟩
  | 47 => ⟨S50000, .f32⟩
  | 48 => ⟨S50000x1, .f32⟩
  | 49 => ⟨S50000, .f32⟩
  | 50 => ⟨S_, .f32⟩
  | 51 => ⟨S50000, .f32⟩
  | 52 => ⟨S50000, .f32⟩
  | 53 => ⟨S50000, .f32⟩
  | 54 => ⟨S50000x1, .f32⟩
  | 55 => ⟨S50000, .f32⟩
  | 56 => ⟨S_, .f32⟩
  | 57 => ⟨S50000, .f32⟩
  | 58 => ⟨S50000, .f32⟩
  | 59 => ⟨S50000, .f32⟩
  | 60 => ⟨S_, .i32⟩
  | 61 => ⟨S8x50000, .i32⟩
  | 62 => ⟨S8x50000, .i1⟩
  | 63 => ⟨S_, .i32⟩
  | 64 => ⟨S8x50000, .i32⟩
  | 65 => ⟨S8x50000, .i32⟩
  | 66 => ⟨S8x50000, .i32⟩
  | 67 => ⟨S8x50000x1, .i32⟩
  | 68 => ⟨S1, .i32⟩
  | 69 => ⟨S_, .i32⟩
  | 70 => ⟨S8x50000x1, .i32⟩
  | 71 => ⟨S8x50000x1, .i1⟩
  | 72 => ⟨S1x1x1, .i32⟩
  | 73 => ⟨S8x50000x1, .i32⟩
  | 74 => ⟨S8x50000x1, .i1⟩
  | 75 => ⟨S8x50000x1, .i1⟩
  | 76 => ⟨S_, .i1⟩
  | 77 => ⟨S8x50000, .i1⟩
  | 78 => ⟨S8x50000x4, .f32⟩
  | 79 => ⟨S8x50000x4, .i1⟩
  | 80 => ⟨S_, .f32⟩
  | 81 => ⟨S8x50000x4, .f32⟩
  | 82 => ⟨S8x50000x4, .f32⟩
  | 83 => ⟨S8x50000x1, .f32⟩
  | 84 => ⟨S8x50000, .f32⟩
  | 85 => ⟨S8x50000x1, .f32⟩
  | 86 => ⟨S8x50000, .f32⟩
  | 87 => ⟨S8x50000, .f32⟩
  | 88 => ⟨S8x50000x1, .f32⟩
  | 89 => ⟨S8x50000, .f32⟩
  | 90 => ⟨S8x50000x1, .f32⟩
  | 91 => ⟨S8x50000, .f32⟩
  | 92 => ⟨S8x50000, .f32⟩
  | 93 => ⟨S8x50000x1, .f32⟩
  | 94 => ⟨S8x50000, .f32⟩
  | 95 => ⟨S_, .f32⟩
  | 96 => ⟨S8x50000, .f32⟩
  | 97 => ⟨S8x50000, .f32⟩
  | 98 => ⟨S8x50000, .f32⟩
  | 99 => ⟨S8x50000x1, .f32⟩
  | 100 => ⟨S8x50000, .f32⟩
  | 101 => ⟨S_, .f32⟩
  | 102 => ⟨S8x50000, .f32⟩
  | 103 => ⟨S8x50000, .f32⟩
  | 104 => ⟨S8x50000, .f32⟩
  | 105 => ⟨S1x50000, .f32⟩
  | 106 => ⟨S8x50000, .f32⟩
  | 107 => ⟨S8x50000, .f32⟩
  | 108 => ⟨S1x50000, .f32⟩
  | 109 => ⟨S8x50000, .f32⟩
  | 110 => ⟨S8x50000, .f32⟩
  | 111 => ⟨S1x50000, .f32⟩
  | 112 => ⟨S8x50000, .f32⟩
  | 113 => ⟨S8x50000, .f32⟩
  | 114 => ⟨S1x50000, .f32⟩
  | 115 => ⟨S8x50000, .f32⟩
  | 116 => ⟨S8x50000, .f32⟩
  | 117 => ⟨S1x50000, .f32⟩
  | 118 => ⟨S8x50000, .f32⟩
  | 119 => ⟨S8x50000, .f32⟩
  | 120 => ⟨S8x50000, .f32⟩
  | 121 => ⟨S1x50000, .f32⟩
  | 122 => ⟨S8x50000, .f32⟩
  | 123 => ⟨S8x50000, .f32⟩
  | 124 => ⟨S8x50000, .f32⟩
  | 125 => ⟨S_, .f32⟩
  | 126 => ⟨S_, .f32⟩
  | 127 => ⟨S_, .f32⟩
  | _ => ⟨S8x50000x80, .f32⟩

abbrev hbmTy0_2 (i : Nat) : BufTy := match i % 128 with
  | 0 => ⟨S_, .f32⟩
  | 1 => ⟨S_, .f32⟩
  | 2 => ⟨S_, .f32⟩
  | 3 => ⟨S8x50000, .f32⟩
  | 4 => ⟨S8x50000, .f32⟩
  | 5 => ⟨S8x50000, .f32⟩
  | 6 => ⟨S8x50000, .f32⟩
  | 7 => ⟨S8x50000, .f32⟩
  | 8 => ⟨S8x50000, .f32⟩
  | 9 => ⟨S8x50000, .f32⟩
  | 10 => ⟨S8x50000, .f32⟩
  | 11 => ⟨S8x50000x1, .f32⟩
  | 12 => ⟨S8x50000x1, .f32⟩
  | 13 => ⟨S8x50000x1, .f32⟩
  | 14 => ⟨S8x50000x1, .f32⟩
  | 15 => ⟨S8x50000x4, .f32⟩
  | 16 => ⟨S8x50000x4, .f32⟩
  | 17 => ⟨S8x50000x4, .f32⟩
  | 18 => ⟨S_, .f32⟩
  | 19 => ⟨S8x50000x4, .f32⟩
  | 20 => ⟨S8x50000x4, .i1⟩
  | 21 => ⟨S_, .f32⟩
  | 22 => ⟨S8x50000x4, .f32⟩
  | 23 => ⟨S8x50000x4, .f32⟩
  | 24 => ⟨S8x50000x4, .f32⟩
  | 25 => ⟨S_, .f32⟩
  | 26 => ⟨S8x50000x4, .f32⟩
  | 27 => ⟨S8x50000x4, .f32⟩
  | 28 => ⟨S8x50000x4, .f32⟩
  | 29 => ⟨S8x50000x1, .f32⟩
  | 30 => ⟨S8x50000x4, .f32⟩
  | 31 => ⟨S8x50000x4, .f32⟩
  | 32 => ⟨S_, .f32⟩
  | 33 => ⟨S8, .f32⟩
  | 34 => ⟨S_, .f32⟩
  | 35 => ⟨S8, .f32⟩
  | 36 => ⟨S8, .f32⟩
  | 37 => ⟨S8, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | _ => ⟨S8x50000x80, .f32⟩

abbrev hbmTy (i : Nat) : BufTy := match i / 128 with
  | 0 => hbmTy0_0 i
  | 1 => hbmTy0_1 i
  | 2 => hbmTy0_2 i
  | _ => ⟨S8x50000x80, .f32⟩

abbrev bufTy : (tb : Table) → Fin (tcTables nBuf tb) → BufTy
  | .hbm, ⟨i, _⟩ => hbmTy i
  | _, _ => ⟨S8x50000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_0 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_c : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_v60 : Ref sig .tc := ⟨.hbm, 75, rfl⟩
abbrev main_c_2 : Ref sig .tc := ⟨.hbm, 76, rfl⟩
abbrev main_v61 : Ref sig .tc := ⟨.hbm, 77, rfl⟩
abbrev main_cst_3 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_4 : Ref sig .tc := ⟨.hbm, 82, rfl⟩
abbrev main_v65 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_c_4 : Ref sig .tc := ⟨.hbm, 103, rfl⟩
abbrev main_call2_v14 : Ref sig .tc := ⟨.hbm, 104, rfl⟩
abbrev main_v66 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_5 : Ref sig .tc := ⟨.hbm, 118, rfl⟩
abbrev main_v73 : Ref sig .tc := ⟨.hbm, 119, rfl⟩
abbrev main_v74 : Ref sig .tc := ⟨.hbm, 120, rfl⟩
abbrev main_cst_6 : Ref sig .tc := ⟨.hbm, 121, rfl⟩
abbrev main_v75 : Ref sig .tc := ⟨.hbm, 122, rfl⟩
abbrev main_v76 : Ref sig .tc := ⟨.hbm, 123, rfl⟩
abbrev main_cst_7 : Ref sig .tc := ⟨.hbm, 124, rfl⟩
abbrev main_v77 : Ref sig .tc := ⟨.hbm, 125, rfl⟩
abbrev main_v78 : Ref sig .tc := ⟨.hbm, 126, rfl⟩
abbrev main_cst_8 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_9 : Ref sig .tc := ⟨.hbm, 131, rfl⟩
abbrev main_v82 : Ref sig .tc := ⟨.hbm, 132, rfl⟩
abbrev main_v83 : Ref sig .tc := ⟨.hbm, 133, rfl⟩
abbrev main_cst_10 : Ref sig .tc := ⟨.hbm, 134, rfl⟩
abbrev main_cst_11 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_v84 : Ref sig .tc := ⟨.hbm, 140, rfl⟩
abbrev main_cst_12 : Ref sig .tc := ⟨.hbm, 141, rfl⟩
abbrev main_v85 : Ref sig .tc := ⟨.hbm, 142, rfl⟩
abbrev main_v86 : Ref sig .tc := ⟨.hbm, 143, rfl⟩
abbrev main_cst_13 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_14 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_15 : Ref sig .tc := ⟨.hbm, 160, rfl⟩
abbrev main_v101 : Ref sig .tc := ⟨.hbm, 161, rfl⟩
abbrev main_cst_16 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_cst_17 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_18 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_v14 : Ref sig .tc := ⟨.hbm, 207, rfl⟩
abbrev main_call6_cst : Ref sig .tc := ⟨.hbm, 208, rfl⟩
abbrev main_call6_v15 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_19 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_cst_20 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_cst_21 : Ref sig .tc := ⟨.hbm, 253, rfl⟩
abbrev main_cst_22 : Ref sig .tc := ⟨.hbm, 254, rfl⟩
abbrev main_v166 : Ref sig .tc := ⟨.hbm, 255, rfl⟩
abbrev main_cst_23 : Ref sig .tc := ⟨.hbm, 256, rfl⟩
abbrev main_cst_24 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_cst_25 : Ref sig .tc := ⟨.hbm, 274, rfl⟩
abbrev main_v183 : Ref sig .tc := ⟨.hbm, 275, rfl⟩
abbrev main_v184 : Ref sig .tc := ⟨.hbm, 276, rfl⟩
abbrev main_cst_26 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_cst_27 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_cst_28 : Ref sig .tc := ⟨.hbm, 288, rfl⟩
abbrev main_v194 : Ref sig .tc := ⟨.hbm, 289, rfl⟩
abbrev main_cst_29 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_cst_30 : Ref sig .tc := ⟨.hbm, 294, rfl⟩
abbrev main_v198 : Ref sig .tc := ⟨.hbm, 295, rfl⟩
abbrev main_cst_31 : Ref sig .tc := ⟨.hbm, 296, rfl⟩
abbrev main_v199 : Ref sig .tc := ⟨.hbm, 297, rfl⟩
abbrev main_cst_32 : Ref sig .tc := ⟨.hbm, 298, rfl⟩
abbrev main_v200 : Ref sig .tc := ⟨.hbm, 299, rfl⟩
abbrev main_cst_33 : Ref sig .tc := ⟨.hbm, 300, rfl⟩
abbrev main_v201 : Ref sig .tc := ⟨.hbm, 301, rfl⟩
abbrev main_cst_34 : Ref sig .tc := ⟨.hbm, 302, rfl⟩
abbrev main_v202 : Ref sig .tc := ⟨.hbm, 303, rfl⟩
abbrev main_cst_35 : Ref sig .tc := ⟨.hbm, 304, rfl⟩
abbrev main_v203 : Ref sig .tc := ⟨.hbm, 305, rfl⟩
abbrev main_v204 : Ref sig .tc := ⟨.hbm, 306, rfl⟩

abbrev nD : Nat := 1
abbrev τ : Topo := Topo.v7x

variable {F : FTy → Type} [FloatOps F]
-- ==== Proof.KernelRun.lean ====
/-
  The kernel's run, with what it leaves in the three results: the contents the last operations compute.
-/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Around

open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- The run ends with the results as computed and the arguments as launched. -/
theorem run : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v0_0 (by decide)), h c _ (mem_uc main_v0_1 (by decide)), h c _ (mem_uc main_v0_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Around

end
-- ==== Proof.Best.lean ====
/-
  The kernel's search for the best target, as vectors over one block of 16 × 128 anchors: what the loop over the 64
  targets keeps for every anchor, one step of it, and what is kept after the first `n` targets.
-/
module

public import proofs.«01_k».proof.Proof.Gen.KernelIdeal.Frame

@[expose] public section

noncomputable section

open Idealize.ShloMosaic Idealize.ShloMosaic.TcCoe Idealize.SL.Sem

namespace Cert.KernelIdeal.Anchors

open Cert.KernelIdeal Cert.KernelIdeal.Gen

variable {F : FTy → Type} [FloatOps F]

/-- The best overlap met so far, and the label and the corners of the target that reached it. -/
structure Best (F : FTy → Type) where
  iou : FVec F S16x128 .f32
  lab : FVec F S16x128 .f32
  x1 : FVec F S16x128 .f32
  y1 : FVec F S16x128 .f32
  x2 : FVec F S16x128 .f32
  y2 : FVec F S16x128 .f32

/-- Every anchor holds the number of the word `w`. -/
abbrev word (w : BitVec 32) : FVec F S16x128 .f32 := broadcast S16x128 (Scalar.ofBits .f32 w)

/-- Before any target: overlap and label minus one, the corners zero. -/
def start : Best F := ⟨word 0xBF800000#32, word 0xBF800000#32, word 0#32, word 0#32, word 0#32, word 0#32⟩

/-- The anchors' area. -/
def area (a : Fin 4 → FVec F S16x128 .f32) : FVec F S16x128 .f32 := mulf (subf (a 2) (a 0)) (subf (a 3) (a 1))

/-- The length two boxes share along one axis, never below zero. -/
def shared (lo hi : FVec F S16x128 .f32) (glo ghi : F .f32) : FVec F S16x128 .f32 :=
  maximumf (subf (minimumf hi (broadcast S16x128 ghi)) (maximumf lo (broadcast S16x128 glo))) (word 0#32)

/-- The area the anchors share with the target `g`. -/
def inter (a : Fin 4 → FVec F S16x128 .f32) (g : Fin 5 → F .f32) : FVec F S16x128 .f32 :=
  mulf (shared (a 0) (a 2) (g 0) (g 2)) (shared (a 1) (a 3) (g 1) (g 3))

/-- The overlap of the anchors with the target `g`, as the kernel associates the union. -/
def overlap (a : Fin 4 → FVec F S16x128 .f32) (g : Fin 5 → F .f32) : FVec F S16x128 .f32 :=
  divf (inter a g)
    (addf (addf (area a)
      (subf (broadcast S16x128 (Scalar.mulf (Scalar.subf (g 2) (g 0)) (Scalar.subf (g 3) (g 1)))) (inter a g)))
      (word 0x358637BD#32))

/-- One target: kept where its overlap is above the best so far. -/
def step (a : Fin 4 → FVec F S16x128 .f32) (g : Fin 5 → F .f32) (s : Best F) : Best F :=
  ⟨select (cmpf .ogt (overlap a g) s.iou) (overlap a g) s.iou,
   select (cmpf .ogt (overlap a g) s.iou) (broadcast S16x128 (g 4)) s.lab,
   select (cmpf .ogt (overlap a g) s.iou) (broadcast S16x128 (g 0)) s.x1,
   select (cmpf .ogt (overlap a g) s.iou) (broadcast S16x128 (g 1)) s.y1,
   select (cmpf .ogt (overlap a g) s.iou) (broadcast S16x128 (g 2)) s.x2,
   select (cmpf .ogt (overlap a g) s.iou) (broadcast S16x128 (g 3)) s.y2⟩

/-- What is kept after the first `n` targets. -/
def best (a : Fin 4 → FVec F S16x128 .f32) (t : Fin 64 → Fin 5 → F .f32) : (n : ℕ) → n ≤ 64 → Best F
  | 0, _ => start
  | n + 1, h => step a (t ⟨n, h⟩) (best a t n (Nat.le_of_succ_le h))

/-- The word of target `g` at row `k` as the body loads it. -/
def tgt (arg2 : Memref sig .tc .smem S1x5x64 .f32) (harg2 : arg2.IsWhole) (x0 : Vec F S1x5x64 .f32)
    (g : Fin 64) (k : Fin 5) : F .f32 :=
  View.readAt (Elt F) arg2.view (Rect.unit (s := S1x5x64) ![0, k.val, g.val] S1x1x1.size (by
    intro a; fin_cases a
    · show 0 + 1 ≤ 1; omega
    · have := k.isLt; show k.val + 1 ≤ 5; omega
    · have := g.isLt; show g.val + 1 ≤ 64; omega)).toLoadRect
    (harg2.unread x0) (Shape.Idx.first (by show 0 < S1x1x1.numel; decide))

/-- Coordinate `k` of the anchors as the body loads it. -/
def anc (arg3 : Memref sig .tc .vmem S4x16x128 .f32) (harg3 : arg3.IsWhole) (x1 : Vec F S4x16x128 .f32)
    (k : Fin 4) : FVec F S16x128 .f32 :=
  shapeCast S16x128 (View.readAt (Elt F) arg3.view (Rect.unit (s := S4x16x128) ![k.val, 0, 0] S1x16x128.size (by
    intro a; fin_cases a
    · have := k.isLt; show k.val + 1 ≤ 4; omega
    · show 0 + 16 ≤ 16; omega
    · show 0 + 128 ≤ 128; omega)).toLoadRect
    (harg3.unread x1)) shapeCasts_S1x16x128_S16x128

/-- Coordinate `k` of the predictions as the body loads it. -/
def prd (arg4 : Memref sig .tc .vmem S1x4x16x128 .f32) (harg4 : arg4.IsWhole) (x2 : Vec F S1x4x16x128 .f32)
    (k : Fin 4) : FVec F S16x128 .f32 :=
  shapeCast S16x128 (View.readAt (Elt F) arg4.view (Rect.unit (s := S1x4x16x128) ![0, k.val, 0, 0] S1x1x16x128.size (by
    intro a; fin_cases a
    · show 0 + 1 ≤ 1; omega
    · have := k.isLt; show k.val + 1 ≤ 4; omega
    · show 0 + 16 ≤ 16; omega
    · show 0 + 128 ≤ 128; omega)).toLoadRect
    (harg4.unread x2)) shapeCasts_S1x1x16x128_S16x128

/-! ## What the body makes of the best targets -/

/-- Where the best overlap is at least one half. -/
def pos (s : Best F) : IVec S16x128 1 := cmpf .oge s.iou (word 0x3F000000#32)

/-- One where an anchor is positive, zero elsewhere. -/
def posf (s : Best F) : FVec F S16x128 .f32 := sitofp .f32 (extui 32 (pos s) natLt_1_32)

/-- The label of a positive anchor's target, minus one elsewhere. -/
def labels (s : Best F) : FVec F S16x128 .f32 := select (pos s) s.lab (word 0xBF800000#32)

/-- The offset of the centres along one axis, over the anchors' extent, tenfold. -/
def shift (alo ahi blo bhi : FVec F S16x128 .f32) : FVec F S16x128 .f32 :=
  mulf (mulf (subf (addf blo (mulf (word 0x3F000000#32) (subf bhi blo)))
      (addf alo (mulf (word 0x3F000000#32) (subf ahi alo))))
    (divf (word 0x3F800000#32) (subf ahi alo))) (word 0x41200000#32)

/-- The logarithm of the quotient of the extents along one axis, fivefold. -/
def scale (alo ahi blo bhi : FVec F S16x128 .f32) : FVec F S16x128 .f32 :=
  mulf (log (mulf (subf bhi blo) (divf (word 0x3F800000#32) (subf ahi alo)))) (word 0x40A00000#32)

/-- The smooth distance of a prediction from its aim. -/
def smooth (p d : FVec F S16x128 .f32) : FVec F S16x128 .f32 :=
  select (cmpf .olt (absf (subf p d)) (word 0x3F800000#32))
    (mulf (mulf (word 0x3F000000#32) (absf (subf p d))) (absf (subf p d)))
    (subf (absf (subf p d)) (word 0x3F000000#32))

/-- The four smooth distances of the anchors, added up. -/
def regs (a p : Fin 4 → FVec F S16x128 .f32) (s : Best F) : FVec F S16x128 .f32 :=
  addf (addf (addf (addf (word 0#32) (smooth (p 0) (shift (a 0) (a 2) s.x1 s.x2)))
    (smooth (p 1) (shift (a 1) (a 3) s.y1 s.y2)))
    (smooth (p 2) (scale (a 0) (a 2) s.x1 s.x2)))
    (smooth (p 3) (scale (a 1) (a 3) s.y1 s.y2))

/-- All of a block's numbers, added up. -/
def total (v : FVec F S16x128 .f32) : F .f32 :=
  extractAt ![0, 0, 0] (shapeCast S1x1x1 (multiReduction .add [1, 2] S1
    (shapeCast S1x16x128 v shapeCasts_S16x128_S1x16x128) 0x00000000#32 reduces_S1x16x128_S1 (.inl rfl) rfl)
    shapeCasts_S1_S1x1x1) inpos_S1x1x1_p0_0_0

/-- A row with `r` in lane 0, `n` in lane 1 and zero in the others. -/
def row (r n : F .f32) : FVec F S1x1x128 .f32 :=
  addf (select (cmpi .eq (iota .tc S1x1x128 32 [2] iota_S1x1x128_d2_w32) (broadcast S1x1x128 0#32))
      (broadcast S1x1x128 r) (broadcast S1x1x128 (Scalar.ofBits .f32 0#32)))
    (select (cmpi .eq (iota .tc S1x1x128 32 [2] iota_S1x1x128_d2_w32) (broadcast S1x1x128 1#32))
      (broadcast S1x1x128 n) (broadcast S1x1x128 (Scalar.ofBits .f32 0#32)))

end Cert.KernelIdeal.Anchors

end
-- ==== Proof.Block0.lean ====
/-
  What one run of the first call's body leaves: the labels of its block, and the row of the two sums, added to the
  row the earlier blocks of the image left (zeros before the image's first block).
-/
module

public import proofs.«01_k».proof.Proof.Best
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Anchors

open Cert.KernelIdeal Cert.KernelIdeal.Gen

variable {F : FTy → Type} [FloatOps F]

theorem zeros3 : (![0, 0, 0] : Fin 3 → Nat) = fun _ => 0 := funext fun a => by fin_cases a <;> rfl

section

variable (c : Dev nD) (i : grid0.Coords) (arg2 : Memref sig .tc .smem S1x5x64 .f32) (harg2 : arg2.IsWhole)
  (arg3 : Memref sig .tc .vmem S4x16x128 .f32) (harg3 : arg3.IsWhole)
  (arg4 : Memref sig .tc .vmem S1x4x16x128 .f32) (harg4 : arg4.IsWhole)
  (arg5 : Memref sig .tc .vmem S1x16x128 .f32) (harg5 : arg5.IsWhole)
  (arg6 : Memref sig .tc .vmem S1x1x128 .f32) (harg6 : arg6.IsWhole)
  (x0 : Vec F S1x5x64 .f32) (x1 : Vec F S4x16x128 .f32) (x2 : Vec F S1x4x16x128 .f32) (xo4 : Vec F S1x1x128 .f32)

/-- What is kept after all 64 targets, of the loaded words. -/
abbrev found : Best F := best (anc arg3 harg3 x1) (tgt arg2 harg2 x0) 64 (Nat.le_refl 64)

/-- The row the block adds. -/
abbrev added : FVec F S1x1x128 .f32 :=
  row (total (mulf (regs (anc arg3 harg3 x1) (prd arg4 harg4 x2) (found arg2 harg2 arg3 harg3 x0 x1))
    (posf (found arg2 harg2 arg3 harg3 x0 x1)))) (total (posf (found arg2 harg2 arg3 harg3 x0 x1)))

/-- At an image's first block, the labels. -/
theorem out_A_3 (hc0 : cond0_0 i) :
    out0_A_3 c i arg2 harg2 arg3 harg3 arg4 harg4 arg5 harg5 arg6 harg6 hc0 x0 x1 x2
      = shapeCast S1x16x128 (labels (found arg2 harg2 arg3 harg3 x0 x1)) shapeCasts_S16x128_S1x16x128 := by
  unfold out0_A_3
  rw [View.read_writes_eq_canon _ _ _ (cover0_A_3 c i arg2 harg2 arg3 harg3 arg4 harg4 arg5 harg5 arg6 harg6 hc0 x0 x1 x2)]
  unfold kernelRun0_A
  dsimp only
  rw [View.canon_unit_zero (S := S1x16x128) zeros3]
  sl_kernel_rfl

/-- At an image's later blocks, the labels. -/
theorem out_B_3 (hc0 : ¬cond0_0 i) :
    out0_B_3 c i arg2 harg2 arg3 harg3 arg4 harg4 arg5 harg5 arg6 harg6 hc0 x0 x1 x2 xo4
      = shapeCast S1x16x128 (labels (found arg2 harg2 arg3 harg3 x0 x1)) shapeCasts_S16x128_S1x16x128 := by
  unfold out0_B_3
  rw [View.read_writes_eq_canon _ _ _ (cover0_B_3 c i arg2 harg2 arg3 harg3 arg4 harg4 arg5 harg5 arg6 harg6 hc0 x0 x1 x2 xo4)]
  unfold kernelRun0_B
  dsimp only
  rw [View.canon_unit_zero (S := S1x16x128) zeros3]
  sl_kernel_rfl

/-- At an image's first block, the row of sums. -/
theorem out_A_4 (hc0 : cond0_0 i) :
    out0_A_4 c i arg2 harg2 arg3 harg3 arg4 harg4 arg5 harg5 arg6 harg6 hc0 x0 x1 x2
      = addf (broadcast S1x1x128 (Scalar.ofBits .f32 0#32)) (added arg2 harg2 arg3 harg3 arg4 harg4 x0 x1 x2) := by
  unfold out0_A_4
  rw [View.read_writes_eq_canon _ _ _ (cover0_A_4 c i arg2 harg2 arg3 harg3 arg4 harg4 arg5 harg5 arg6 harg6 hc0 x0 x1 x2)]
  unfold kernelRun0_A
  dsimp only
  rw [View.canon_cons_unit_zero (S := S1x1x128) zeros3]
  unfold kernelRun0_A.sl.v2756 kernelRun0_A.sl.H4_1
  rw [View.readCov_unit_zero (S := S1x1x128) _ zeros3]
  unfold k0_pay2
  rw [shapeCast_self]
  sl_kernel_rfl

/-- At an image's later blocks, the row of sums. -/
theorem out_B_4 (hc0 : ¬cond0_0 i) :
    out0_B_4 c i arg2 harg2 arg3 harg3 arg4 harg4 arg5 harg5 arg6 harg6 hc0 x0 x1 x2 xo4
      = addf xo4 (added arg2 harg2 arg3 harg3 arg4 harg4 x0 x1 x2) := by
  unfold out0_B_4
  rw [View.read_writes_eq_canon _ _ _ (cover0_B_4 c i arg2 harg2 arg3 harg3 arg4 harg4 arg5 harg5 arg6 harg6 hc0 x0 x1 x2 xo4)]
  unfold kernelRun0_B
  dsimp only
  rw [View.canon_unit_zero (S := S1x1x128) zeros3]
  unfold k0_pay2
  rw [View.readAt_eq_ld, harg6.read_unread, View.ld_unit_zero (S := S1x1x128) zeros3, shapeCast_self]
  sl_kernel_rfl

end

end Cert.KernelIdeal.Anchors

end
-- ==== Proof.Spec.lean ====
/-
  The losses as plain mathematics over the extended reals: the overlap of an anchor with a target, the greatest
  overlap and the first target that reaches it, the smooth distance of a prediction from its aim and the focal loss
  of a logit. Everything here is about single numbers; the arrays come elsewhere.
-/
module

public import Idealize.ShloMosaic.PureOps.Ideal
public import Idealize.ShloMosaic.PureOps.Ideal.Laws

@[expose] public section

noncomputable section

open Idealize.ShloMosaic

namespace Cert.Loss

/-! ## The numbers the programs spell as words -/

/-- The small number added to a union. -/
def eps : EReal := Ideal.ofBits .f32 0x358637BD#32

abbrev half : EReal := ((1 / 2 : ℝ) : EReal)
abbrev quarter : EReal := ((1 / 4 : ℝ) : EReal)
abbrev threeQuarters : EReal := ((3 / 4 : ℝ) : EReal)
abbrev five : EReal := ((5 : ℝ) : EReal)
abbrev eight : EReal := ((8 : ℝ) : EReal)
abbrev ten : EReal := ((10 : ℝ) : EReal)
abbrev two : EReal := ((2 : ℝ) : EReal)

theorem bits_half : Ideal.ofBits .f32 0x3F000000#32 = half := by
  simp [Ideal.ofBits, Ideal.ieee, -EReal.coe_mul]; norm_num
theorem bits_quarter : Ideal.ofBits .f32 0x3E800000#32 = quarter := by
  simp [Ideal.ofBits, Ideal.ieee, -EReal.coe_mul]; norm_num
theorem bits_threeQuarters : Ideal.ofBits .f32 0x3F400000#32 = threeQuarters := by
  simp [Ideal.ofBits, Ideal.ieee, -EReal.coe_mul]; norm_num
theorem bits_one : Ideal.ofBits .f32 0x3F800000#32 = 1 := by
  simp [Ideal.ofBits, Ideal.ieee, -EReal.coe_mul]; norm_num
theorem bits_minus_one : Ideal.ofBits .f32 0xBF800000#32 = -1 := by
  simp [Ideal.ofBits, Ideal.ieee, -EReal.coe_mul]; norm_num
theorem bits_two : Ideal.ofBits .f32 0x40000000#32 = two := by
  simp [Ideal.ofBits, Ideal.ieee, -EReal.coe_mul]; norm_num
theorem bits_five : Ideal.ofBits .f32 0x40A00000#32 = five := by
  simp [Ideal.ofBits, Ideal.ieee, -EReal.coe_mul]; norm_num
theorem bits_eight : Ideal.ofBits .f32 0x41000000#32 = eight := by
  simp [Ideal.ofBits, Ideal.ieee, -EReal.coe_mul]; norm_num
theorem bits_ten : Ideal.ofBits .f32 0x41200000#32 = ten := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

/-! ## The overlap -/

/-- The length two intervals share, never below zero. -/
def shared (lo hi glo ghi : EReal) : EReal := max (min hi ghi - max lo glo) 0

/-- The area two boxes (x1, y1, x2, y2) share. -/
def inter (a t : Fin 4 → EReal) : EReal := shared (a 0) (a 2) (t 0) (t 2) * shared (a 1) (a 3) (t 1) (t 3)

/-- The area of a box. -/
def area (a : Fin 4 → EReal) : EReal := (a 2 - a 0) * (a 3 - a 1)

/-- The overlap of two boxes: the shared area over the union's. -/
def overlap (a t : Fin 4 → EReal) : EReal := Ideal.div (inter a t) (area a + area t - inter a t + eps)

/-! ## The greatest overlap, and the first target that reaches it -/

/-- The greatest of 64 numbers. -/
def top (v : Fin 64 → EReal) : EReal := Finset.univ.sup v

theorem reached (v : Fin 64 → EReal) : (Finset.univ.filter fun g => v g = top v).Nonempty := by
  obtain ⟨g, _, hg⟩ := Finset.exists_mem_eq_sup Finset.univ ⟨(0 : Fin 64), Finset.mem_univ _⟩ v
  exact ⟨g, by simp [top, hg]⟩

/-- The first place of the greatest of 64 numbers. -/
def first (v : Fin 64 → EReal) : Fin 64 := (Finset.univ.filter fun g => v g = top v).min' (reached v)

theorem le_top (v : Fin 64 → EReal) (g : Fin 64) : v g ≤ top v := Finset.le_sup (Finset.mem_univ g)

theorem at_first (v : Fin 64 → EReal) : v (first v) = top v :=
  (Finset.mem_filter.mp (Finset.min'_mem _ (reached v))).2

theorem first_le (v : Fin 64 → EReal) (g : Fin 64) (h : v g = top v) : first v ≤ g :=
  Finset.min'_le _ _ (by simp [h])

/-- The greatest number is the one no other exceeds. -/
theorem top_eq {v : Fin 64 → EReal} {g : Fin 64} (h : ∀ g', v g' ≤ v g) : top v = v g :=
  le_antisymm (Finset.sup_le fun g' _ => h g') (le_top v g)

/-- The first place is the one whose number no other exceeds and no earlier one reaches. -/
theorem first_eq {v : Fin 64 → EReal} {g : Fin 64} (h : ∀ g', v g' ≤ v g) (h' : ∀ g' < g, v g' < v g) :
    first v = g := by
  refine le_antisymm (first_le v g (top_eq h).symm) (not_lt.mp fun hlt => ?_)
  have := h' _ hlt
  rw [at_first v, top_eq h] at this
  exact lt_irrefl _ this

/-! ## The aims and the smooth distance -/

/-- The offset of two intervals' centres over the first one's extent, tenfold. -/
def shift (alo ahi blo bhi : EReal) : EReal :=
  (blo + half * (bhi - blo) - (alo + half * (ahi - alo))) * Ideal.div 1 (ahi - alo) * ten

/-- The logarithm of the quotient of two intervals' extents, fivefold. -/
def scale (alo ahi blo bhi : EReal) : EReal := Ideal.log ((bhi - blo) * Ideal.div 1 (ahi - alo)) * five

/-- The smooth distance: half the square below one, the distance less one half from there on. -/
def smooth (p d : EReal) : EReal :=
  if max (p - d) (-(p - d)) < 1 then half * max (p - d) (-(p - d)) * max (p - d) (-(p - d))
  else max (p - d) (-(p - d)) - half

/-- The four smooth distances of the predictions `p` from the aims of anchor `a` at target `t`. -/
def dist (a p t : Fin 4 → EReal) : EReal :=
  smooth (p 0) (shift (a 0) (a 2) (t 0) (t 2)) + smooth (p 1) (shift (a 1) (a 3) (t 1) (t 3))
    + smooth (p 2) (scale (a 0) (a 2) (t 0) (t 2)) + smooth (p 3) (scale (a 1) (a 3) (t 1) (t 3))

/-! ## The focal loss of a logit -/

/-- The logarithm of one plus the exponential. -/
def softplus (l : EReal) : EReal := max l 0 + Ideal.log (1 + Ideal.exp (0 - max l (-l)))

/-- The probability of a logit. -/
def prob (l : EReal) : EReal :=
  if 0 ≤ l then Ideal.div 1 (1 + Ideal.exp (0 - max l (-l)))
  else 1 - Ideal.div 1 (1 + Ideal.exp (0 - max l (-l)))

/-- The loss of a class that is not the target's. -/
def miss (l : EReal) : EReal := threeQuarters * (prob l * prob l) * softplus l

/-- The loss of the target's class. -/
def hit (l : EReal) : EReal := quarter * ((1 - prob l) * (1 - prob l)) * (softplus l - l)

end Cert.Loss

end
-- ==== Proof.Scan.lean ====
/-
  What the search over the targets has found in the end, at one anchor: if the greatest overlap is one half or more,
  that overlap, and the label and corners of the first target that reaches it; otherwise a best overlap below one half.
-/
module

public import proofs.«01_k».proof.Proof.Best
public import proofs.«01_k».proof.Proof.Spec
public import Idealize.ShloMosaic.Lib.Pointwise

@[expose] public section

noncomputable section

open Idealize.ShloMosaic Idealize.ShloMosaic.TcCoe Idealize.SL.Sem

namespace Cert.KernelIdeal.Anchors

open Cert.KernelIdeal Cert.KernelIdeal.Gen

variable (a : Fin 4 → FVec Ideal S16x128 .f32) (t : Fin 64 → Fin 5 → Ideal .f32) (i : S16x128.Idx)

/-- The anchor's box. -/
abbrev box : Fin 4 → EReal := fun k => a k i

/-- A target's corners. -/
abbrev corners (g : Fin 64) : Fin 4 → EReal := fun k => t g k.castSucc

/-- The overlaps of the anchor with the targets. -/
abbrev overlaps : Fin 64 → EReal := fun g => Loss.overlap (box a i) (corners t g)

/-- The kernel's overlap is the overlap: it only associates the union another way. -/
theorem overlap_at (g : Fin 64) : overlap a (t g) i = overlaps a t i g := by
  unfold overlap
  show Ideal.div (inter a (t g) i) (area a i + ((t g 2 - t g 0) * (t g 3 - t g 1) - inter a (t g) i) + Ideal.ofBits .f32 0x358637BD#32) = _
  have hi : inter a (t g) i = Loss.inter (box a i) (corners t g) := by
    unfold inter shared Loss.inter Loss.shared
    show max (min (a 2 i) (t g 2) - max (a 0 i) (t g 0)) (Ideal.ofBits .f32 0#32)
      * max (min (a 3 i) (t g 3) - max (a 1 i) (t g 1)) (Ideal.ofBits .f32 0#32) = _
    rw [Ideal.ofBits_zero_f32]
    rfl
  rw [hi]
  show _ = Loss.overlap (box a i) (corners t g)
  unfold Loss.overlap
  rw [sub_eq_add_neg, sub_eq_add_neg, ← add_assoc]
  rfl

/-- The values of a state at the anchor are the target `g`'s. -/
def Holds (s : Best Ideal) (g : Fin 64) : Prop :=
  s.iou i = overlaps a t i g ∧ s.lab i = t g 4 ∧ s.x1 i = t g 0 ∧ s.y1 i = t g 1 ∧ s.x2 i = t g 2 ∧ s.y2 i = t g 3

/-- One step replaces all values, or none. -/
theorem step_above (g : Fin 64) (s : Best Ideal) (h : s.iou i < overlaps a t i g) : Holds a t i (step a (t g) s) g := by
  have hb : cmpf .ogt (overlap a (t g)) s.iou i = 1#1 := by
    show Ideal.cmp .ogt (overlap a (t g) i) (s.iou i) = 1#1
    rw [overlap_at]; simp [Ideal.cmp, h]
  refine ⟨?_, ?_, ?_, ?_, ?_, ?_⟩ <;>
    (simp only [step, select, Scalar.select, hb, overlap_at, broadcast]; exact if_pos rfl)

theorem step_below (g : Fin 64) (s : Best Ideal) (h : ¬ s.iou i < overlaps a t i g) :
    (step a (t g) s).iou i = s.iou i ∧ (step a (t g) s).lab i = s.lab i ∧ (step a (t g) s).x1 i = s.x1 i
      ∧ (step a (t g) s).y1 i = s.y1 i ∧ (step a (t g) s).x2 i = s.x2 i ∧ (step a (t g) s).y2 i = s.y2 i := by
  have hb : cmpf .ogt (overlap a (t g)) s.iou i = 0#1 := by
    show Ideal.cmp .ogt (overlap a (t g) i) (s.iou i) = 0#1
    rw [overlap_at]; simp [Ideal.cmp, h]
  refine ⟨?_, ?_, ?_, ?_, ?_, ?_⟩ <;>
    simp [step, select, Scalar.select, hb]

/-- What the search holds after `n` targets. -/
theorem scan (n : ℕ) (hn : n ≤ 64) :
    ((best a t n hn).iou i = -1 ∧ ∀ g : Fin 64, g.val < n → overlaps a t i g ≤ -1) ∨
    ∃ g : Fin 64, g.val < n ∧ Holds a t i (best a t n hn) g ∧ -1 < overlaps a t i g
      ∧ (∀ g' : Fin 64, g'.val < n → overlaps a t i g' ≤ overlaps a t i g)
      ∧ ∀ g' < g, overlaps a t i g' < overlaps a t i g := by
  induction n with
  | zero =>
    refine Or.inl ⟨?_, fun g hg => absurd hg (Nat.not_lt_zero _)⟩
    show Ideal.ofBits .f32 0xBF800000#32 = -1
    exact Loss.bits_minus_one
  | succ n ih =>
    have hlast : ∀ g : Fin 64, g.val < n + 1 → g.val < n ∨ g = ⟨n, hn⟩ := fun g hg => by
      rcases Nat.lt_succ_iff_lt_or_eq.mp hg with h | h
      · exact Or.inl h
      · exact Or.inr (Fin.ext h)
    show ((step a (t ⟨n, hn⟩) (best a t n (Nat.le_of_succ_le hn))).iou i = -1 ∧ _) ∨
      ∃ g : Fin 64, g.val < n + 1 ∧ Holds a t i (step a (t ⟨n, hn⟩) (best a t n (Nat.le_of_succ_le hn))) g ∧ _
    by_cases hb : (best a t n (Nat.le_of_succ_le hn)).iou i < overlaps a t i ⟨n, hn⟩
    · refine Or.inr ⟨⟨n, hn⟩, Nat.lt_succ_self n, step_above a t i _ _ hb, ?_, ?_, ?_⟩
      · rcases ih (Nat.le_of_succ_le hn) with ⟨h1, _⟩ | ⟨g, _, hg, h1, _⟩
        · rwa [h1] at hb
        · rw [hg.1] at hb; exact h1.trans hb
      · intro g' hg'
        rcases hlast g' hg' with h | h
        · rcases ih (Nat.le_of_succ_le hn) with ⟨h1, h2⟩ | ⟨g, _, hg, _, h2, _⟩
          · exact (h2 g' h).trans (by rw [h1] at hb; exact hb.le)
          · exact (h2 g' h).trans (by rw [hg.1] at hb; exact hb.le)
        · rw [h]
      · intro g' hg'
        have h : g'.val < n := hg'
        rcases ih (Nat.le_of_succ_le hn) with ⟨h1, h2⟩ | ⟨g, _, hg, _, h2, _⟩
        · exact (h2 g' h).trans_lt (by rwa [h1] at hb)
        · exact (h2 g' h).trans_lt (by rwa [hg.1] at hb)
    · obtain ⟨e1, e2, e3, e4, e5, e6⟩ := step_below a t i ⟨n, hn⟩ _ hb
      rcases ih (Nat.le_of_succ_le hn) with ⟨h1, h2⟩ | ⟨g, hgn, hg, h1, h2, h3⟩
      · refine Or.inl ⟨e1.trans h1, fun g hg => ?_⟩
        rcases hlast g hg with h | h
        · exact h2 g h
        · rw [h1] at hb; rw [h]; exact not_lt.mp hb
      · refine Or.inr ⟨g, hgn.trans (Nat.lt_succ_self n), ?_, h1, fun g' hg' => ?_, h3⟩
        · obtain ⟨a1, a2, a3, a4, a5, a6⟩ := hg
          exact ⟨e1.trans a1, e2.trans a2, e3.trans a3, e4.trans a4, e5.trans a5, e6.trans a6⟩
        · rcases hlast g' hg' with h | h
          · exact h2 g' h
          · rw [hg.1] at hb; rw [h]; exact not_lt.mp hb

/-- The anchor is positive: some overlap is one half or more. -/
abbrev Positive : Prop := Loss.half ≤ Loss.top (overlaps a t i)

theorem minus_one_lt_half : (-1 : EReal) < Loss.half := by
  have h : ((-1 : ℝ) : EReal) < ((1 / 2 : ℝ) : EReal) := EReal.coe_lt_coe_iff.mpr (by norm_num)
  rwa [EReal.coe_neg, EReal.coe_one] at h

/-- A positive anchor ends with the first target of the greatest overlap. -/
theorem found_pos (h : Positive a t i) : Holds a t i (best a t 64 (Nat.le_refl 64)) (Loss.first (overlaps a t i)) := by
  rcases scan a t i 64 (Nat.le_refl 64) with ⟨_, h2⟩ | ⟨g, _, hg, _, h2, h3⟩
  · have : Loss.top (overlaps a t i) ≤ -1 := Finset.sup_le fun g _ => h2 g g.isLt
    exact absurd (h.trans this) (not_le.mpr minus_one_lt_half)
  · rw [Loss.first_eq (fun g' => h2 g' g'.isLt) h3]; exact hg

/-- The best overlap is one half or more exactly at the positive anchors. -/
theorem found_iff : Loss.half ≤ (best a t 64 (Nat.le_refl 64)).iou i ↔ Positive a t i := by
  constructor
  · intro h
    rcases scan a t i 64 (Nat.le_refl 64) with ⟨h1, _⟩ | ⟨g, _, hg, _⟩
    · rw [h1] at h; exact absurd h (not_le.mpr minus_one_lt_half)
    · rw [hg.1] at h; exact h.trans (Loss.le_top _ g)
  · intro h
    rw [(found_pos a t i h).1, Loss.at_first (overlaps a t i)]; exact h

end Cert.KernelIdeal.Anchors

end
-- ==== Proof.BlockSum.lean ====
/-
  The numbers a block leaves, one anchor at a time: its label, whether it counts as positive and its smooth distance;
  and the block's two sums over its 16 rows of 128 anchors.
-/
module

public import proofs.«01_k».proof.Proof.Scan
public import proofs.«01_k».proof.Proof.Block0

@[expose] public section

set_option maxRecDepth 16384

noncomputable section

open Idealize.ShloMosaic Idealize.ShloMosaic.TcCoe Idealize.SL.Sem
open Idealize.ShloMosaic.Pointwise

namespace Cert.KernelIdeal.Anchors

open Cert.KernelIdeal Cert.KernelIdeal.Gen

open Classical in
/-- One for a positive anchor, zero otherwise. -/
def _root_.Cert.Loss.counted (v : Fin 64 → EReal) : EReal := if Loss.half ≤ Loss.top v then 1 else 0

open Classical in
/-- The smooth distance of a positive anchor, zero for the others. -/
def _root_.Cert.Loss.distance (a p : Fin 4 → EReal) (t : Fin 64 → Fin 4 → EReal) : EReal :=
  if Loss.half ≤ Loss.top (fun g => Loss.overlap a (t g)) then
    Loss.dist a p (t (Loss.first fun g => Loss.overlap a (t g))) else 0

open Classical in
/-- The label of a positive anchor's target, minus one for the others. -/
def _root_.Cert.Loss.label (v : Fin 64 → EReal) (lab : Fin 64 → EReal) : EReal :=
  if Loss.half ≤ Loss.top v then lab (Loss.first v) else -1

variable (a p : Fin 4 → FVec Ideal S16x128 .f32) (t : Fin 64 → Fin 5 → Ideal .f32) (i : S16x128.Idx)

theorem pos_at : pos (best a t 64 (Nat.le_refl 64)) i = BitVec.ofBool (decide (Positive a t i)) := by
  show Ideal.cmp .oge ((best a t 64 (Nat.le_refl 64)).iou i) (Ideal.ofBits .f32 0x3F000000#32) = _
  rw [Loss.bits_half]
  unfold Ideal.cmp
  simp only [found_iff a t i]

theorem posf_at : posf (best a t 64 (Nat.le_refl 64)) i = Loss.counted (overlaps a t i) := by
  show ((((pos (best a t 64 (Nat.le_refl 64)) i).setWidth 32).toInt : ℝ) : EReal) = _
  rw [pos_at]
  unfold Loss.counted
  by_cases h : Positive a t i
  · rw [if_pos h, decide_eq_true h]
    simp
  · rw [if_neg h, decide_eq_false h]
    simp

theorem labels_at : labels (best a t 64 (Nat.le_refl 64)) i = Loss.label (overlaps a t i) (fun g => t g 4) := by
  show Scalar.select (pos (best a t 64 (Nat.le_refl 64)) i) ((best a t 64 (Nat.le_refl 64)).lab i) (Ideal.ofBits .f32 0xBF800000#32) = _
  rw [pos_at, Loss.bits_minus_one]
  unfold Loss.label Scalar.select
  by_cases h : Positive a t i
  · rw [if_pos h, decide_eq_true h, (found_pos a t i h).2.1]
    exact if_pos rfl
  · rw [if_neg h, decide_eq_false h]
    exact if_neg (by decide)

theorem shift_at (alo ahi blo bhi : FVec Ideal S16x128 .f32) :
    shift alo ahi blo bhi i = Loss.shift (alo i) (ahi i) (blo i) (bhi i) := by
  show (blo i + Ideal.ofBits .f32 0x3F000000#32 * (bhi i - blo i) - (alo i + Ideal.ofBits .f32 0x3F000000#32 * (ahi i - alo i)))
    * Ideal.div (Ideal.ofBits .f32 0x3F800000#32) (ahi i - alo i) * Ideal.ofBits .f32 0x41200000#32 = _
  rw [Loss.bits_half, Loss.bits_one, Loss.bits_ten]
  rfl

theorem scale_at (alo ahi blo bhi : FVec Ideal S16x128 .f32) :
    scale alo ahi blo bhi i = Loss.scale (alo i) (ahi i) (blo i) (bhi i) := by
  show Ideal.log ((bhi i - blo i) * Ideal.div (Ideal.ofBits .f32 0x3F800000#32) (ahi i - alo i)) * Ideal.ofBits .f32 0x40A00000#32 = _
  rw [Loss.bits_one, Loss.bits_five]
  rfl

theorem smooth_at (q d : FVec Ideal S16x128 .f32) : smooth q d i = Loss.smooth (q i) (d i) := by
  show Scalar.select (Ideal.cmp .olt (max (q i - d i) (-(q i - d i))) (Ideal.ofBits .f32 0x3F800000#32))
    (Ideal.ofBits .f32 0x3F000000#32 * max (q i - d i) (-(q i - d i)) * max (q i - d i) (-(q i - d i)))
    (max (q i - d i) (-(q i - d i)) - Ideal.ofBits .f32 0x3F000000#32) = _
  rw [Loss.bits_half, Loss.bits_one]
  unfold Loss.smooth Scalar.select Ideal.cmp
  by_cases h : max (q i - d i) (-(q i - d i)) < 1
  · rw [if_pos h]; simp only [h]; exact if_pos rfl
  · rw [if_neg h]; simp only [h]; exact if_neg (by decide)

theorem regs_at : mulf (regs a p (best a t 64 (Nat.le_refl 64))) (posf (best a t 64 (Nat.le_refl 64))) i
    = Loss.distance (box a i) (fun k => p k i) (corners t) := by
  show regs a p (best a t 64 (Nat.le_refl 64)) i * posf (best a t 64 (Nat.le_refl 64)) i = _
  rw [posf_at]
  unfold Loss.counted Loss.distance
  by_cases h : Positive a t i
  · rw [if_pos h, if_pos h, mul_one]
    unfold regs
    show Ideal.ofBits .f32 0#32 + smooth _ _ i + smooth _ _ i + smooth _ _ i + smooth _ _ i = _
    rw [smooth_at, smooth_at, smooth_at, smooth_at, shift_at, shift_at, scale_at, scale_at, Ideal.ofBits_zero_f32, zero_add]
    obtain ⟨_, _, h1, h2, h3, h4⟩ := found_pos a t i h
    rw [h1, h2, h3, h4]
    rfl
  · rw [if_neg h, if_neg h, mul_zero]

/-- The sum of a block, row by row. -/
theorem total_eq (v : FVec Ideal S16x128 .f32) : total v = ∑ r : Fin 16, ∑ l : Fin 128, v (ix2 r l) := by
  unfold total
  pointwise

/-- A number chosen on one lane. -/
theorem lane_select (r : EReal) (l : Fin 128) (k : ℕ) (hk : k < 128) :
    Scalar.select (IntOp.cmpi .eq (BitVec.ofNat 32 l.val) (BitVec.ofNat 32 k)) r 0 = if l.val = k then r else 0 := by
  have hl := l.isLt
  have h : (BitVec.ofNat 32 l.val = BitVec.ofNat 32 k) ↔ l.val = k := by
    constructor
    · intro h
      have := congrArg BitVec.toNat h
      simp only [BitVec.toNat_ofNat] at this
      omega
    · intro h; rw [h]
  unfold Scalar.select IntOp.cmpi
  by_cases e : l.val = k
  · rw [if_pos e, e]; simp
  · rw [if_neg e]
    have : ¬ BitVec.ofNat 32 l.val = BitVec.ofNat 32 k := fun h' => e (h.mp h')
    have hb : (BitVec.ofNat 32 l.val == BitVec.ofNat 32 k) = false := beq_eq_false_iff_ne.mpr this
    show (if BitVec.ofBool (BitVec.ofNat 32 l.val == BitVec.ofNat 32 k) = 1 then r else 0) = 0
    rw [hb]
    exact if_neg (by decide)

theorem row_at (r n : EReal) (l : Fin 128) : row (F := Ideal) r n (ix3 0 0 l)
    = (if l.val = 0 then r else 0) + (if l.val = 1 then n else 0) := by
  unfold row
  pointwise
  rw [lane_select r l 0 (by omega), lane_select n l 1 (by omega)]

end Cert.KernelIdeal.Anchors

end
-- ==== Proof.Loads.lean ====
/-
  What the first call's body loads, read from its blocks: the words of the targets, the anchors' and the predictions'
  coordinates; and with them the two outputs of a block as numbers.
-/
module

public import proofs.«01_k».proof.Proof.BlockSum
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pointwise

namespace Cert.KernelIdeal.Anchors

open Cert.KernelIdeal Cert.KernelIdeal.Gen

variable {F : FTy → Type} [FloatOps F]

theorem tgt_eq (arg2 : Memref sig .tc .smem S1x5x64 .f32) (harg2 : arg2.IsWhole) (x0 : Vec F S1x5x64 .f32)
    (g : Fin 64) (k : Fin 5) : tgt arg2 harg2 x0 g k = x0 (ix3 0 k g) := by
  unfold tgt
  rw [View.readAt_eq_ld, harg2.read_unread]
  exact View.ld_unit_apply_of x0 _ _ _ _ (ix3 0 k g) (fun a => by fin_cases a <;> rfl)

theorem anc_eq (arg3 : Memref sig .tc .vmem S4x16x128 .f32) (harg3 : arg3.IsWhole) (x1 : Vec F S4x16x128 .f32)
    (k : Fin 4) (r : Fin 16) (l : Fin 128) : anc arg3 harg3 x1 k (ix2 r l) = x1 (ix3 k r l) := by
  unfold anc
  rw [View.readAt_eq_ld, harg3.read_unread]
  rw [shapeCast_apply _ shapeCasts_S1x16x128_S16x128 (ix2 r l) (ix3 0 r l)
    (by rw [Shape.rowMajor_val_three, Shape.rowMajor_val_two]; show (0 * 16 + r.val) * 128 + l.val = r.val * 128 + l.val; omega)]
  exact View.ld_unit_apply_of x1 _ _ _ _ (ix3 k r l) (fun a => by
    fin_cases a
    · show k.val = k.val + 0; omega
    · show r.val = 0 + r.val; omega
    · show l.val = 0 + l.val; omega)

theorem prd_eq (arg4 : Memref sig .tc .vmem S1x4x16x128 .f32) (harg4 : arg4.IsWhole) (x2 : Vec F S1x4x16x128 .f32)
    (k : Fin 4) (r : Fin 16) (l : Fin 128) : prd arg4 harg4 x2 k (ix2 r l) = x2 (ix4 0 k r l) := by
  unfold prd
  rw [View.readAt_eq_ld, harg4.read_unread]
  rw [shapeCast_apply _ shapeCasts_S1x1x16x128_S16x128 (ix2 r l) (ix4 0 0 r l)
    (by rw [Shape.rowMajor_val_four, Shape.rowMajor_val_two]; show ((0 * 1 + 0) * 16 + r.val) * 128 + l.val = r.val * 128 + l.val; omega)]
  exact View.ld_unit_apply_of x2 _ _ _ _ (ix4 0 k r l) (fun a => by
    fin_cases a
    · rfl
    · show k.val = k.val + 0; omega
    · show r.val = 0 + r.val; omega
    · show l.val = 0 + l.val; omega)

section

variable (arg2 : Memref sig .tc .smem S1x5x64 .f32) (harg2 : arg2.IsWhole)
  (arg3 : Memref sig .tc .vmem S4x16x128 .f32) (harg3 : arg3.IsWhole)
  (arg4 : Memref sig .tc .vmem S1x4x16x128 .f32) (harg4 : arg4.IsWhole)
  (x0 : Vec Ideal S1x5x64 .f32) (x1 : Vec Ideal S4x16x128 .f32) (x2 : Vec Ideal S1x4x16x128 .f32)

/-- The overlaps of the anchor in row `r`, lane `l` of a block with the targets. -/
abbrev blockOverlaps (r : Fin 16) (l : Fin 128) : Fin 64 → EReal :=
  fun g => Loss.overlap (fun k => x1 (ix3 k r l)) (fun k : Fin 4 => x0 (ix3 0 k.castSucc g))

theorem overlaps_eq (r : Fin 16) (l : Fin 128) :
    overlaps (anc arg3 harg3 x1) (tgt arg2 harg2 x0) (ix2 r l) = blockOverlaps x0 x1 r l := by
  funext g
  show Loss.overlap (fun k => anc arg3 harg3 x1 k (ix2 r l)) (fun k : Fin 4 => tgt arg2 harg2 x0 g k.castSucc) = _
  simp only [anc_eq, tgt_eq]

/-- A block's label. -/
theorem label_eq (r : Fin 16) (l : Fin 128) :
    shapeCast S1x16x128 (labels (found arg2 harg2 arg3 harg3 x0 x1)) shapeCasts_S16x128_S1x16x128 (ix3 0 r l)
      = Loss.label (blockOverlaps x0 x1 r l) (fun g => x0 (ix3 0 4 g)) := by
  rw [shapeCast_apply _ shapeCasts_S16x128_S1x16x128 (ix3 0 r l) (ix2 r l)
    (by rw [Shape.rowMajor_val_three, Shape.rowMajor_val_two]; show r.val * 128 + l.val = (0 * 16 + r.val) * 128 + l.val; omega)]
  rw [labels_at, overlaps_eq]
  simp only [tgt_eq]

/-- The row a block adds: its smooth distances in lane 0, its positive anchors in lane 1. -/
theorem added_eq (l : Fin 128) : added arg2 harg2 arg3 harg3 arg4 harg4 x0 x1 x2 (ix3 0 0 l)
    = (if l.val = 0 then ∑ r : Fin 16, ∑ l : Fin 128, Loss.distance (fun k => x1 (ix3 k r l)) (fun k => x2 (ix4 0 k r l))
          (fun g k => x0 (ix3 0 k.castSucc g)) else 0)
      + (if l.val = 1 then ∑ r : Fin 16, ∑ l : Fin 128, Loss.counted (blockOverlaps x0 x1 r l) else 0) := by
  have hd : ∀ r l, mulf (regs (anc arg3 harg3 x1) (prd arg4 harg4 x2) (best (anc arg3 harg3 x1) (tgt arg2 harg2 x0) 64 (Nat.le_refl 64)))
      (posf (best (anc arg3 harg3 x1) (tgt arg2 harg2 x0) 64 (Nat.le_refl 64))) (ix2 r l)
      = Loss.distance (fun k => x1 (ix3 k r l)) (fun k => x2 (ix4 0 k r l)) (fun g k => x0 (ix3 0 k.castSucc g)) := fun r l => by
    rw [regs_at]
    have h1 : box (anc arg3 harg3 x1) (ix2 r l) = fun k => x1 (ix3 k r l) := funext fun k => anc_eq _ _ _ k r l
    have h2 : (fun k => prd arg4 harg4 x2 k (ix2 r l)) = fun k => x2 (ix4 0 k r l) := funext fun k => prd_eq _ _ _ k r l
    have h3 : corners (tgt arg2 harg2 x0) = fun g k => x0 (ix3 0 k.castSucc g) :=
      funext fun g => funext fun k => tgt_eq _ _ _ g k.castSucc
    rw [h1, h2, h3]
  have hc : ∀ r l, posf (best (anc arg3 harg3 x1) (tgt arg2 harg2 x0) 64 (Nat.le_refl 64)) (ix2 r l)
      = Loss.counted (blockOverlaps x0 x1 r l) := fun r l => by
    rw [posf_at, overlaps_eq]
  rw [show added arg2 harg2 arg3 harg3 arg4 harg4 x0 x1 x2 (ix3 0 0 l) = _ from row_at _ _ l, total_eq, total_eq]
  exact congrArg₂ (fun x y => (if l.val = 0 then x else 0) + (if l.val = 1 then y else 0))
    (Finset.sum_congr rfl fun r _ => Finset.sum_congr rfl fun l _ => hd r l)
    (Finset.sum_congr rfl fun r _ => Finset.sum_congr rfl fun l _ => hc r l)

end

end Cert.KernelIdeal.Anchors

end
-- ==== Proof.Arrays0.lean ====
/-
  What the first call leaves in its two output arrays: every anchor's label word, and per image the two sums over all
  the anchors' blocks.
-/
module

public import proofs.«01_k».proof.Proof.Block0
public import proofs.«01_k».proof.Proof.Loads
public import proofs.«01_k».proof.Proof.Gen.KernelIdeal.Frame
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.SL.Sem
open Idealize.ShloMosaic.Pointwise

namespace Cert.KernelIdeal.Anchors

open Cert.KernelIdeal Cert.KernelIdeal.Gen

theorem index_0 : ∀ t : Fin cfg0.N, win0_0.index t = ![t.val / 25, 0, 0] :=
  (by decide +kernel : ∀ t : Fin grid0.N, _)
theorem index_1 : ∀ t : Fin cfg0.N, win0_1.index t = ![0, t.val % 25, 0] :=
  (by decide +kernel : ∀ t : Fin grid0.N, _)
theorem index_2 : ∀ t : Fin cfg0.N, win0_2.index t = ![t.val / 25, 0, t.val % 25, 0] :=
  (by decide +kernel : ∀ t : Fin grid0.N, _)
theorem index_3 : ∀ t : Fin cfg0.N, win0_3.index t = ![t.val / 25, t.val % 25, 0] :=
  (by decide +kernel : ∀ t : Fin grid0.N, _)
theorem index_4 : ∀ t : Fin cfg0.N, win0_4.index t = ![t.val / 25, 0, 0] :=
  (by decide +kernel : ∀ t : Fin grid0.N, _)

/-- A point's image. -/
def image (t : Fin cfg0.N) : Fin 8 := ⟨t.val / 25, by have : t.val < 200 := t.isLt; omega⟩
/-- A point's block of rows. -/
def place (t : Fin cfg0.N) : Fin 25 := ⟨t.val % 25, by omega⟩
/-- Row `r` of block `j` among all the rows. -/
def line (j : Fin 25) (r : Fin 16) : Fin 400 := ⟨j.val * 16 + r.val, by omega⟩

variable (V : (c : Dev nD) → (b : Ref sig .tc) → Buf (Elt Ideal) ((c : Thread nD τ).loc b))

/-- The targets' block of a point is its image's part of the table. -/
theorem targets_at (c : Dev nD) (t : Fin cfg0.N) (k : Fin 5) (g : Fin 64) :
    iblk0 V c 0 t (ix3 0 k g) = V c main_call0_v12 (ix3 (image t) k g) := by
  unfold iblk0
  rw [View.read_apply]
  refine congrArg (V c main_call0_v12) ?_
  blk_ext [index_0 t, image]

/-- The anchors' block of a point. -/
theorem anchors_at (c : Dev nD) (t : Fin cfg0.N) (k : Fin 4) (r : Fin 16) (l : Fin 128) :
    iblk0 V c 1 t (ix3 k r l) = V c main_call0_v4 (ix3 k (line (place t) r) l) := by
  unfold iblk0
  rw [View.read_apply]
  refine congrArg (V c main_call0_v4) ?_
  blk_ext [index_1 t, line, place]

/-- The predictions' block of a point. -/
theorem preds_at (c : Dev nD) (t : Fin cfg0.N) (k : Fin 4) (r : Fin 16) (l : Fin 128) :
    iblk0 V c 2 t (ix4 0 k r l) = V c main_call0_v8 (ix4 (image t) k (line (place t) r) l) := by
  unfold iblk0
  rw [View.read_apply]
  refine congrArg (V c main_call0_v8) ?_
  blk_ext [index_2 t, line, place, image]

/-- The four numbers of the anchor in row `q`, lane `l`. -/
def anchorAt (c : Dev nD) (q : Fin 400) (l : Fin 128) : Fin 4 → EReal := fun k => V c main_call0_v4 (ix3 k q l)
/-- The four numbers predicted for that anchor in image `b`. -/
def predAt (c : Dev nD) (b : Fin 8) (q : Fin 400) (l : Fin 128) : Fin 4 → EReal :=
  fun k => V c main_call0_v8 (ix4 b k q l)
/-- The boxes of image `b`'s targets. -/
def targetAt (c : Dev nD) (b : Fin 8) : Fin 64 → Fin 4 → EReal := fun g k => V c main_call0_v12 (ix3 b k.castSucc g)
/-- The labels of image `b`'s targets. -/
def labelAt (c : Dev nD) (b : Fin 8) : Fin 64 → EReal := fun g => V c main_call0_v12 (ix3 b 4 g)
/-- The overlaps of an anchor with an image's targets. -/
def overlapsAt (c : Dev nD) (b : Fin 8) (q : Fin 400) (l : Fin 128) : Fin 64 → EReal :=
  fun g => Loss.overlap (anchorAt V c q l) (targetAt V c b g)

theorem blockOverlaps_at (c : Dev nD) (t : Fin cfg0.N) (r : Fin 16) (l : Fin 128) :
    blockOverlaps (iblk0 V c 0 t) (iblk0 V c 1 t) r l = overlapsAt V c (image t) (line (place t) r) l := by
  funext g
  show Loss.overlap _ _ = Loss.overlap _ _
  refine congrArg₂ Loss.overlap ?_ ?_
  · funext k; exact anchors_at V c t k r l
  · funext k; exact targets_at V c t k.castSucc g

/-- At every point the first output's block holds its anchors' labels. -/
theorem block_3 (c : Dev nD) (t : Fin cfg0.N) :
    (outsAt0 V c t.val t.isLt).1
      = shapeCast S1x16x128 (labels (found (ms0_0 t) (hs0_0 t) (ms0_1 t) (hs0_1 t) (iblk0 V c 0 t) (iblk0 V c 1 t)))
          shapeCasts_S16x128_S1x16x128 := by
  by_cases h0 : t.val % 25 = 0
  · rw [outsAt0_A V c t h0]
    dsimp only
    exact out_A_3 c (grid0.coords t) (ms0_0 t) (hs0_0 t) (ms0_1 t) (hs0_1 t) (ms0_2 t) (hs0_2 t) (ms0_3 t) (hs0_3 t)
      (ms0_4 t) (hs0_4 t) (iblk0 V c 0 t) (iblk0 V c 1 t) (iblk0 V c 2 t) ((hcond0_0 t).mpr h0)
  · rw [outsAt0_B V c t h0]
    dsimp only
    exact out_B_3 c (grid0.coords t) (ms0_0 t) (hs0_0 t) (ms0_1 t) (hs0_1 t) (ms0_2 t) (hs0_2 t) (ms0_3 t) (hs0_3 t)
      (ms0_4 t) (hs0_4 t) (iblk0 V c 0 t) (iblk0 V c 1 t) (iblk0 V c 2 t) _ (fun h => h0 ((hcond0_0 t).mp h))

/-- The label array after the call: at every anchor, its label word. -/
theorem labels_array (c : Dev nD) (b : Fin 8) (q : Fin 400) (l : Fin 128) :
    (dat0 V c).arrAt 3 cfg0.N (ix3 b q l) = Loss.label (overlapsAt V c b q l) (labelAt V c b) := by
  have e : (dat0 V c).arrAt 3 cfg0.N
      = fun i : S8x400x128.Idx => Loss.label (overlapsAt V c (i 0) (i 1) (i 2)) (labelAt V c (i 0)) := by
    refine (dat0 V c).arrAt_eq_of_covers 3 _ (by decide +kernel) fun t hf y => ?_
    blk_simp
    rw [after0_3, block_3]
    obtain ⟨r, l, hy⟩ : ∃ (r : Fin 16) (l : Fin 128), y = ix3 0 r l := by
      refine ⟨y 1, y 2, ?_⟩
      funext a
      fin_cases a
      · exact Subsingleton.elim (α := Fin 1) _ _
      · rfl
      · rfl
    subst hy
    rw [label_eq, blockOverlaps_at]
    have hi : (((cfg0.win 3).blk t).view.emb (ix3 0 r l) : S8x400x128.Idx) = ix3 (image t) (line (place t) r) l := by
      blk_ext [index_3 t, line, place, image]
    rw [show (fun g => iblk0 V c 0 t (ix3 0 4 g)) = labelAt V c (image t) from funext fun g => targets_at V c t 4 g]
    exact (congrArg (fun i : S8x400x128.Idx => Loss.label (overlapsAt V c (i 0) (i 1) (i 2)) (labelAt V c (i 0))) hi).symm
  exact congrFun e _

/-- What a point adds to its image's row of sums. -/
def term (c : Dev nD) (t : Fin cfg0.N) : FVec Ideal S1x1x128 .f32 :=
  added (ms0_0 t) (hs0_0 t) (ms0_1 t) (hs0_1 t) (ms0_2 t) (hs0_2 t) (iblk0 V c 0 t) (iblk0 V c 1 t) (iblk0 V c 2 t)

/-- An image's first point. -/
theorem step_A (c : Dev nD) (t : Fin cfg0.N) (h0 : t.val % 25 = 0) :
    (outsAt0 V c t.val t.isLt).2 = addf (broadcast S1x1x128 (Scalar.ofBits .f32 0#32)) (term V c t) := by
  rw [outsAt0_A V c t h0]
  dsimp only
  exact out_A_4 c (grid0.coords t) (ms0_0 t) (hs0_0 t) (ms0_1 t) (hs0_1 t) (ms0_2 t) (hs0_2 t) (ms0_3 t) (hs0_3 t)
    (ms0_4 t) (hs0_4 t) (iblk0 V c 0 t) (iblk0 V c 1 t) (iblk0 V c 2 t) ((hcond0_0 t).mpr h0)

/-- An image's later points. -/
theorem step_B (c : Dev nD) (t : Fin cfg0.N) (h0 : ¬t.val % 25 = 0) :
    (outsAt0 V c t.val t.isLt).2
      = addf (outsAt0 V c (t.val - 1) (Nat.lt_of_le_of_lt (Nat.sub_le _ _) t.isLt)).2 (term V c t) := by
  rw [outsAt0_B V c t h0]
  dsimp only
  exact out_B_4 c (grid0.coords t) (ms0_0 t) (hs0_0 t) (ms0_1 t) (hs0_1 t) (ms0_2 t) (hs0_2 t) (ms0_3 t) (hs0_3 t)
    (ms0_4 t) (hs0_4 t) (iblk0 V c 0 t) (iblk0 V c 1 t) (iblk0 V c 2 t) _ (fun h => h0 ((hcond0_0 t).mp h))

/-- At an image's last point its row holds the sum of what its points added. -/
theorem block_4 (c : Dev nD) (t : Fin cfg0.N) (ht : t.val % 25 = 24) (i : S1x1x128.Idx) :
    (outsAt0 V c t.val t.isLt).2 i
      = ∑ s : Fin 25, term V c ⟨25 * (t.val / 25) + s.val, by have : t.val < 200 := t.isLt; show _ < 200; omega⟩ i := by
  have h := Pipeline.eq_sum_fin_of_reset_step_apply_of_flush (fun n h => (outsAt0 V c n h).2) 25 (fun _ => (0 : EReal))
    (term V c)
    (fun t h0 i => (congrFun (step_A V c t h0) i).trans (congrArg (· + term V c t i) Ideal.ofBits_zero_f32))
    (fun t h0 i => congrFun (step_B V c t h0) i)
    t ht i
  exact h.trans (zero_add _)

/-- What a point adds, as numbers. -/
theorem term_at (c : Dev nD) (t : Fin cfg0.N) (l : Fin 128) :
    term V c t (ix3 0 0 l)
      = (if l.val = 0 then ∑ r : Fin 16, ∑ l : Fin 128, Loss.distance (anchorAt V c (line (place t) r) l)
            (predAt V c (image t) (line (place t) r) l) (targetAt V c (image t)) else 0)
        + (if l.val = 1 then ∑ r : Fin 16, ∑ l : Fin 128,
            Loss.counted (overlapsAt V c (image t) (line (place t) r) l) else 0) := by
  unfold term
  rw [added_eq]
  have h0 : ∀ (r : Fin 16) (l : Fin 128), (fun k => iblk0 V c 1 t (ix3 k r l)) = anchorAt V c (line (place t) r) l :=
    fun r l => funext fun k => anchors_at V c t k r l
  have h1 : ∀ (r : Fin 16) (l : Fin 128), (fun k => iblk0 V c 2 t (ix4 0 k r l)) = predAt V c (image t) (line (place t) r) l :=
    fun r l => funext fun k => preds_at V c t k r l
  have h2 : (fun (g : Fin 64) (k : Fin 4) => iblk0 V c 0 t (ix3 0 k.castSucc g)) = targetAt V c (image t) :=
    funext fun g => funext fun k => targets_at V c t k.castSucc g
  refine congrArg₂ (· + ·) (if_congr Iff.rfl ?_ rfl) (if_congr Iff.rfl ?_ rfl)
  · refine Finset.sum_congr rfl fun r _ => Finset.sum_congr rfl fun l _ => ?_
    rw [h0, h1, h2]
  · refine Finset.sum_congr rfl fun r _ => Finset.sum_congr rfl fun l _ => ?_
    rw [blockOverlaps_at]

/-- What an image's row of sums holds in lane `l`. -/
def sumsAt (c : Dev nD) (b : Fin 8) (l : Fin 128) : EReal :=
  ∑ j : Fin 25, ((if l.val = 0 then ∑ r : Fin 16, ∑ l : Fin 128, Loss.distance (anchorAt V c (line j r) l)
            (predAt V c b (line j r) l) (targetAt V c b) else 0)
        + (if l.val = 1 then ∑ r : Fin 16, ∑ l : Fin 128, Loss.counted (overlapsAt V c b (line j r) l) else 0))

/-- The row of sums after the call: lane 0 holds the image's distances, lane 1 its number of positive anchors. -/
theorem sums_array (c : Dev nD) (b : Fin 8) (l : Fin 128) :
    (dat0 V c).arrAt 4 cfg0.N (ix3 b 0 l) = sumsAt V c b l := by
  have e : (dat0 V c).arrAt 4 cfg0.N = fun i : S8x1x128.Idx => sumsAt V c (i 0) (i 2) := by
    refine (dat0 V c).arrAt_eq_of_covers 4 _ (by decide +kernel) fun t hf y => ?_
    blk_simp
    have ht := (flush0_4 t).mp hf
    rw [after0_4, block_4 V c t ht]
    obtain ⟨l, hy⟩ : ∃ (l : Fin 128), y = ix3 0 0 l := by
      refine ⟨y 2, ?_⟩
      funext a
      fin_cases a
      · exact Subsingleton.elim (α := Fin 1) _ _
      · exact Subsingleton.elim (α := Fin 1) _ _
      · rfl
    subst hy
    have hi : (((cfg0.win 4).blk t).view.emb (ix3 0 0 l) : S8x1x128.Idx) = ix3 (image t) 0 l := by
      blk_ext [index_4 t, image]
    refine Eq.trans ?_ (congrArg (fun i : S8x1x128.Idx => sumsAt V c (i 0) (i 2)) hi).symm
    show _ = sumsAt V c (image t) l
    unfold sumsAt
    refine Finset.sum_congr rfl fun s _ => ?_
    rw [term_at]
    have hs : image ⟨25 * (t.val / 25) + s.val, by have : t.val < 200 := t.isLt; show _ < 200; omega⟩ = image t :=
      Fin.ext (by show (25 * (t.val / 25) + s.val) / 25 = t.val / 25; omega)
    have hp : place ⟨25 * (t.val / 25) + s.val, by have : t.val < 200 := t.isLt; show _ < 200; omega⟩ = s :=
      Fin.ext (by show (25 * (t.val / 25) + s.val) % 25 = s.val; omega)
    rw [hs, hp]
  exact congrFun e _

end Cert.KernelIdeal.Anchors

end
-- ==== Proof.Block1.lean ====
/-
  What one run of the second call's body leaves: the row with the focal losses of its 2000 × 80 logits added up in
  lane 0, added to the row the earlier blocks of the image left (zeros before the image's first block).
-/
module

public import proofs.«01_k».proof.Proof.BlockSum

@[expose] public section

set_option maxRecDepth 16384

noncomputable section

open Idealize.ShloMosaic Idealize.ShloMosaic.TcCoe Idealize.SL.Sem
open Idealize.ShloMosaic.Pointwise

namespace Cert.KernelIdeal.Classes

open Cert.KernelIdeal Cert.KernelIdeal.Gen

variable {F : FTy → Type} [FloatOps F]

theorem zeros3 : (![0, 0, 0] : Fin 3 → Nat) = fun _ => 0 := funext fun a => by fin_cases a <;> rfl

/-- All losses of a block, added up. -/
def total (v : FVec F S2000x80 .f32) : F .f32 :=
  extractAt ![0, 0, 0] (shapeCast S1x1x1 (multiReduction .add [1, 2] S1
    (shapeCast S1x2000x80 v shapeCasts_S2000x80_S1x2000x80) 0x00000000#32 reduces_S1x2000x80_S1 (.inl rfl) rfl)
    shapeCasts_S1_S1x1x1) inpos_S1x1x1_p0_0_0

/-- A row with `r` in lane 0 and zero in the others. -/
def row (r : F .f32) : FVec F S1x1x128 .f32 :=
  select (cmpi .eq (iota .tc S1x1x128 32 [2] iota_S1x1x128_d2_w32) (broadcast S1x1x128 0#32))
    (broadcast S1x1x128 r) (broadcast S1x1x128 (Scalar.ofBits .f32 0#32))

section

variable (c : Dev nD) (i : grid1.Coords) (arg2 : Memref sig .tc .vmem S1x2000x80 .f32) (harg2 : arg2.IsWhole)
  (arg3 : Memref sig .tc .vmem S1x2000x1 .f32) (harg3 : arg3.IsWhole)
  (arg4 : Memref sig .tc .vmem S1x1x128 .f32) (harg4 : arg4.IsWhole)
  (x0 : Vec F S1x2000x80 .f32) (x1 : Vec F S1x2000x1 .f32) (xo2 : Vec F S1x1x128 .f32)

/-- At an image's first block. -/
theorem out_A_2 (hc0 : cond1_0 i) :
    out1_A_2 c i arg2 harg2 arg3 harg3 arg4 harg4 hc0 x0 x1
      = addf (broadcast S1x1x128 (Scalar.ofBits .f32 0#32)) (row (total (addf (k1_pay7 x0) (k1_pay8 x0 x1)))) := by
  unfold out1_A_2
  rw [View.read_writes_eq_canon _ _ _ (cover1_A_2 c i arg2 harg2 arg3 harg3 arg4 harg4 hc0 x0 x1)]
  unfold kernelRun1_A
  dsimp only
  rw [View.canon_cons_unit_zero (S := S1x1x128) zeros3]
  sl_unfold_words
  rw [View.readCov_unit_zero (S := S1x1x128) _ zeros3]
  unfold k1_pay2
  simp only [View.readAt_eq_ld, harg2.read_unread, harg3.read_unread, View.ld_unit_zero (S := S1x2000x80) zeros3,
    View.ld_unit_zero (S := S1x2000x1) zeros3, shapeCast_self]
  rfl

/-- At an image's later blocks. -/
theorem out_B_2 (hc0 : ¬cond1_0 i) :
    out1_B_2 c i arg2 harg2 arg3 harg3 arg4 harg4 hc0 x0 x1 xo2
      = addf xo2 (row (total (addf (k1_pay7 x0) (k1_pay8 x0 x1)))) := by
  unfold out1_B_2
  rw [View.read_writes_eq_canon _ _ _ (cover1_B_2 c i arg2 harg2 arg3 harg3 arg4 harg4 hc0 x0 x1 xo2)]
  unfold kernelRun1_B
  dsimp only
  rw [View.canon_unit_zero (S := S1x1x128) zeros3]
  sl_unfold_words
  unfold k1_pay2
  simp only [View.readAt_eq_ld, harg2.read_unread, harg3.read_unread, harg4.read_unread,
    View.ld_unit_zero (S := S1x2000x80) zeros3,
    View.ld_unit_zero (S := S1x2000x1) zeros3, View.ld_unit_zero (S := S1x1x128) zeros3, shapeCast_self]
  rfl

end

/-! ## The numbers, over the extended reals -/

open Classical in
/-- The loss of the logit `l` of class `c` at an anchor labelled `lab`, as the kernel adds it. -/
def _root_.Cert.Loss.cell (l lab : EReal) (c : ℕ) : EReal :=
  Loss.miss l + if lab = ((c : ℝ) : EReal) then Loss.hit l - Loss.miss l else 0

section

variable (x0 : Vec Ideal S1x2000x80 .f32) (x1 : Vec Ideal S1x2000x1 .f32) (r : Fin 2000) (k : Fin 80)

theorem logit_at : k1_pay3 x0 (ix2 r k) = x0 (ix3 0 r k) := by
  unfold k1_pay3
  pointwise

theorem exp_at : k1_pay4 x0 (ix2 r k) = Ideal.exp (0 - max (x0 (ix3 0 r k)) (-(x0 (ix3 0 r k)))) := by
  show Ideal.exp (Ideal.ofBits .f32 0#32 - max (k1_pay3 x0 (ix2 r k)) (-(k1_pay3 x0 (ix2 r k)))) = _
  rw [logit_at, Ideal.ofBits_zero_f32]

theorem softplus_at : k1_pay5 x0 (ix2 r k) = Loss.softplus (x0 (ix3 0 r k)) := by
  show max (k1_pay3 x0 (ix2 r k)) (Ideal.ofBits .f32 0#32) + Ideal.log (Ideal.ofBits .f32 0x3F800000#32 + k1_pay4 x0 (ix2 r k)) = _
  rw [logit_at, exp_at, Ideal.ofBits_zero_f32, Loss.bits_one]
  rfl

theorem prob_at : k1_pay6 x0 (ix2 r k) = Loss.prob (x0 (ix3 0 r k)) := by
  show Scalar.select (Ideal.cmp .oge (k1_pay3 x0 (ix2 r k)) (Ideal.ofBits .f32 0#32))
    (Ideal.div (Ideal.ofBits .f32 0x3F800000#32) (Ideal.ofBits .f32 0x3F800000#32 + k1_pay4 x0 (ix2 r k)))
    (Ideal.ofBits .f32 0x3F800000#32 - Ideal.div (Ideal.ofBits .f32 0x3F800000#32) (Ideal.ofBits .f32 0x3F800000#32 + k1_pay4 x0 (ix2 r k))) = _
  rw [logit_at, exp_at, Ideal.ofBits_zero_f32, Loss.bits_one]
  unfold Loss.prob Scalar.select Ideal.cmp
  by_cases h : 0 ≤ x0 (ix3 0 r k)
  · rw [if_pos h]; simp only [h]; exact if_pos rfl
  · rw [if_neg h]; simp only [h]; exact if_neg (by decide)

theorem miss_at : k1_pay7 x0 (ix2 r k) = Loss.miss (x0 (ix3 0 r k)) := by
  show Ideal.ofBits .f32 0x3F400000#32 * (k1_pay6 x0 (ix2 r k) * k1_pay6 x0 (ix2 r k)) * k1_pay5 x0 (ix2 r k) = _
  rw [prob_at, softplus_at, Loss.bits_threeQuarters]
  rfl

theorem correction_at : k1_pay8 x0 x1 (ix2 r k)
    = (open Classical in if x1 (ix3 0 r 0) = ((k.val : ℝ) : EReal) then Loss.hit (x0 (ix3 0 r k)) - Loss.miss (x0 (ix3 0 r k)) else 0) := by
  have hl : broadcastTo S2000x80 (shapeCast S2000x1 x1 shapeCasts_S1x2000x1_S2000x1) broadcasts_S2000x1_S2000x80 (ix2 r k)
      = x1 (ix3 0 r 0) := by pointwise
  have hk : (((iota .tc S2000x80 32 [1] iota_S2000x80_d1_w32 (ix2 r k)).toInt : ℝ) : EReal) = ((k.val : ℝ) : EReal) := by
    have : iota .tc S2000x80 32 [1] iota_S2000x80_d1_w32 (ix2 r k) = BitVec.ofNat 32 k.val := by pointwise
    rw [this]
    have hk := k.isLt
    rw [BitVec.toInt_ofNat']
    have : ((k.val : ℤ).bmod (2 ^ 32)) = k.val := by
      rw [Int.bmod_eq_of_le] <;> omega
    rw [this]; simp
  show Scalar.select (Ideal.cmp .oeq (broadcastTo S2000x80 (shapeCast S2000x1 x1 shapeCasts_S1x2000x1_S2000x1) broadcasts_S2000x1_S2000x80 (ix2 r k))
      (((iota .tc S2000x80 32 [1] iota_S2000x80_d1_w32 (ix2 r k)).toInt : ℝ) : EReal))
    (Ideal.ofBits .f32 0x3E800000#32 * ((Ideal.ofBits .f32 0x3F800000#32 - k1_pay6 x0 (ix2 r k)) * (Ideal.ofBits .f32 0x3F800000#32 - k1_pay6 x0 (ix2 r k)))
      * (k1_pay5 x0 (ix2 r k) - k1_pay3 x0 (ix2 r k)) - k1_pay7 x0 (ix2 r k)) (Ideal.ofBits .f32 0#32) = _
  rw [hl, hk, prob_at, softplus_at, logit_at, miss_at, Ideal.ofBits_zero_f32, Loss.bits_one, Loss.bits_quarter]
  unfold Loss.hit Scalar.select Ideal.cmp
  by_cases h : x1 (ix3 0 r 0) = ((k.val : ℝ) : EReal)
  · rw [if_pos h]; simp only [h]; exact if_pos (by simp)
  · rw [if_neg h]; simp only [h]; exact if_neg (by decide)

/-- The loss of one logit. -/
theorem cell_at : addf (k1_pay7 x0) (k1_pay8 x0 x1) (ix2 r k) = Loss.cell (x0 (ix3 0 r k)) (x1 (ix3 0 r 0)) k.val := by
  show k1_pay7 x0 (ix2 r k) + k1_pay8 x0 x1 (ix2 r k) = _
  rw [miss_at, correction_at]
  rfl

end

/-- The sum of a block, anchor by anchor. -/
theorem total_eq (v : FVec Ideal S2000x80 .f32) : total v = ∑ r : Fin 2000, ∑ k : Fin 80, v (ix2 r k) := by
  unfold total
  pointwise

theorem row_at (r : EReal) (l : Fin 128) : row (F := Ideal) r (ix3 0 0 l) = if l.val = 0 then r else 0 := by
  unfold row
  pointwise
  rw [Anchors.lane_select r l 0 (by omega)]

end Cert.KernelIdeal.Classes

end
-- ==== Proof.Arrays1.lean ====
/-
  What the second call leaves in its output array: per image the sum of the losses of all its logits.
-/
module

public import proofs.«01_k».proof.Proof.Block1
public import proofs.«01_k».proof.Proof.Gen.KernelIdeal.Frame
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.SL.Sem
open Idealize.ShloMosaic.Pointwise

namespace Cert.KernelIdeal.Classes

open Cert.KernelIdeal Cert.KernelIdeal.Gen

theorem index_0 : ∀ t : Fin cfg1.N, win1_0.index t = ![t.val / 25, t.val % 25, 0] :=
  (by decide +kernel : ∀ t : Fin grid1.N, _)
theorem index_1 : ∀ t : Fin cfg1.N, win1_1.index t = ![t.val / 25, t.val % 25, 0] :=
  (by decide +kernel : ∀ t : Fin grid1.N, _)
theorem index_2 : ∀ t : Fin cfg1.N, win1_2.index t = ![t.val / 25, 0, 0] :=
  (by decide +kernel : ∀ t : Fin grid1.N, _)

/-- A point's image. -/
def image (t : Fin cfg1.N) : Fin 8 := ⟨t.val / 25, by have : t.val < 200 := t.isLt; omega⟩
/-- A point's block of anchors. -/
def place (t : Fin cfg1.N) : Fin 25 := ⟨t.val % 25, by omega⟩
/-- Anchor `r` of block `j` among all the anchors. -/
def anchor (j : Fin 25) (r : Fin 2000) : Fin 50000 := ⟨j.val * 2000 + r.val, by omega⟩

variable (V : (c : Dev nD) → (b : Ref sig .tc) → Buf (Elt Ideal) ((c : Thread nD τ).loc b))

/-- The logits' block of a point. -/
theorem logits_at (c : Dev nD) (t : Fin cfg1.N) (r : Fin 2000) (k : Fin 80) :
    iblk1 V c 0 t (ix3 0 r k) = V c main_arg0 (ix3 (image t) (anchor (place t) r) k) := by
  unfold iblk1
  rw [View.read_apply]
  refine congrArg (V c main_arg0) ?_
  blk_ext [index_0 t, image, place, anchor]

/-- The labels' block of a point. -/
theorem labels_at (c : Dev nD) (t : Fin cfg1.N) (r : Fin 2000) :
    iblk1 V c 1 t (ix3 0 r 0) = V c main_call0_v16 (ix3 (image t) (anchor (place t) r) 0) := by
  unfold iblk1
  rw [View.read_apply]
  refine congrArg (V c main_call0_v16) ?_
  blk_ext [index_1 t, image, place, anchor]

/-- What a point adds to its image's row. -/
def term (c : Dev nD) (t : Fin cfg1.N) : FVec Ideal S1x1x128 .f32 :=
  row (total (addf (k1_pay7 (F := Ideal) (iblk1 V c 0 t)) (k1_pay8 (F := Ideal) (iblk1 V c 0 t) (iblk1 V c 1 t))))

/-- An image's first point. -/
theorem step_A (c : Dev nD) (t : Fin cfg1.N) (h0 : t.val % 25 = 0) :
    outsAt1 V c t.val t.isLt = addf (broadcast S1x1x128 (Scalar.ofBits .f32 0#32)) (term V c t) := by
  rw [outsAt1_A V c t h0]
  exact out_A_2 c (grid1.coords t) (ms1_0 t) (hs1_0 t) (ms1_1 t) (hs1_1 t) (ms1_2 t) (hs1_2 t)
    (iblk1 V c 0 t) (iblk1 V c 1 t) ((hcond1_0 t).mpr h0)

/-- An image's later points. -/
theorem step_B (c : Dev nD) (t : Fin cfg1.N) (h0 : ¬t.val % 25 = 0) :
    outsAt1 V c t.val t.isLt
      = addf (outsAt1 V c (t.val - 1) (Nat.lt_of_le_of_lt (Nat.sub_le _ _) t.isLt)) (term V c t) := by
  rw [outsAt1_B V c t h0]
  exact out_B_2 c (grid1.coords t) (ms1_0 t) (hs1_0 t) (ms1_1 t) (hs1_1 t) (ms1_2 t) (hs1_2 t)
    (iblk1 V c 0 t) (iblk1 V c 1 t) _ (fun h => h0 ((hcond1_0 t).mp h))

/-- At an image's last point its row holds the sum of what its points added. -/
theorem block_2 (c : Dev nD) (t : Fin cfg1.N) (ht : t.val % 25 = 24) (i : S1x1x128.Idx) :
    outsAt1 V c t.val t.isLt i
      = ∑ s : Fin 25, term V c ⟨25 * (t.val / 25) + s.val, by have : t.val < 200 := t.isLt; show _ < 200; omega⟩ i := by
  have h := Pipeline.eq_sum_fin_of_reset_step_apply_of_flush (fun n h => outsAt1 V c n h) 25 (fun _ => (0 : EReal))
    (term V c)
    (fun t h0 i => (congrFun (step_A V c t h0) i).trans (congrArg (· + term V c t i) Ideal.ofBits_zero_f32))
    (fun t h0 i => congrFun (step_B V c t h0) i)
    t ht i
  exact h.trans (zero_add _)

/-- The loss of class `k` at anchor `n` of image `b`. -/
def cellAt (c : Dev nD) (b : Fin 8) (n : Fin 50000) (k : Fin 80) : EReal :=
  Loss.cell (V c main_arg0 (ix3 b n k)) (V c main_call0_v16 (ix3 b n 0)) k.val

/-- What a point adds, as a number. -/
theorem term_at (c : Dev nD) (t : Fin cfg1.N) (l : Fin 128) :
    term V c t (ix3 0 0 l)
      = if l.val = 0 then ∑ r : Fin 2000, ∑ k : Fin 80, cellAt V c (image t) (anchor (place t) r) k else 0 := by
  unfold term
  rw [row_at, total_eq]
  refine if_congr Iff.rfl ?_ rfl
  refine Finset.sum_congr rfl fun r _ => Finset.sum_congr rfl fun k _ => ?_
  rw [cell_at, logits_at, labels_at]
  rfl

/-- What an image's row of sums holds in lane `l`. -/
def sumsAt (c : Dev nD) (b : Fin 8) (l : Fin 128) : EReal :=
  ∑ j : Fin 25, if l.val = 0 then ∑ r : Fin 2000, ∑ k : Fin 80, cellAt V c b (anchor j r) k else 0

/-- The row of sums after the call. -/
theorem sums_array (c : Dev nD) (b : Fin 8) (l : Fin 128) :
    (dat1 V c).arrAt 2 cfg1.N (ix3 b 0 l) = sumsAt V c b l := by
  have e : (dat1 V c).arrAt 2 cfg1.N = fun i : S8x1x128.Idx => sumsAt V c (i 0) (i 2) := by
    refine (dat1 V c).arrAt_eq_of_covers 2 _ (by decide +kernel) fun t hf y => ?_
    blk_simp
    have ht := (flush1_2 t).mp hf
    rw [after1_2, block_2 V c t ht]
    obtain ⟨l, hy⟩ : ∃ (l : Fin 128), y = ix3 0 0 l := by
      refine ⟨y 2, ?_⟩
      funext a
      fin_cases a
      · exact Subsingleton.elim (α := Fin 1) _ _
      · exact Subsingleton.elim (α := Fin 1) _ _
      · rfl
    subst hy
    have hi : (((cfg1.win 2).blk t).view.emb (ix3 0 0 l) : S8x1x128.Idx) = ix3 (image t) 0 l := by
      blk_ext [index_2 t, image]
    refine Eq.trans ?_ (congrArg (fun i : S8x1x128.Idx => sumsAt V c (i 0) (i 2)) hi).symm
    show _ = sumsAt V c (image t) l
    unfold sumsAt
    refine Finset.sum_congr rfl fun s _ => ?_
    rw [term_at]
    have hs : image ⟨25 * (t.val / 25) + s.val, by have : t.val < 200 := t.isLt; show _ < 200; omega⟩ = image t :=
      Fin.ext (by show (25 * (t.val / 25) + s.val) / 25 = t.val / 25; omega)
    have hp : place ⟨25 * (t.val / 25) + s.val, by have : t.val < 200 := t.isLt; show _ < 200; omega⟩ = s :=
      Fin.ext (by show (25 * (t.val / 25) + s.val) % 25 = s.val; omega)
    rw [hs, hp]
  exact congrFun e _

end Cert.KernelIdeal.Classes

end
-- ==== Proof.Host.lean ====
/-
  What the operations around the two calls compute: the padded, reshaped tables that enter the first call, the labels
  that enter the second, and the results made of the two calls' sums.
-/
module

public import proofs.«01_k».proof.Proof.Spec
public import proofs.«01_k».proof.Proof.Gen.KernelIdeal.Frame
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pointwise

namespace Cert.KernelIdeal.Around

open Cert.KernelIdeal Cert.KernelIdeal.Gen

variable (m : (ℓ : Loc nD τ sig) → Buf (Elt Ideal) ℓ) (ρ : Dev nD → PrngReg)

/-! ## The anchors' table -/

/-- The padding box, in every column. -/
def padding : FVec Ideal S4x1200 .f32 :=
  broadcastInDim S4x1200 ![0, 1] bcast_S4x1_S4x1200_0_1 (broadcastInDim S4x1 ![0] bcast_S4_S4x1_0
    (fun i => FloatOps.ofBits (F := Ideal) .f32 (lit0 (S4.rowMajor i))))

/-- The anchors, coordinates first, padded. -/
def anchorsFlat (a : FVec Ideal S50000x4 .f32) : FVec Ideal S4x51200 .f32 :=
  concatenate S4x51200 1 [⟨S4x50000, transpose S4x50000 [1, 0] a transposes_S50000x4_S4x50000_1_0⟩, ⟨S4x1200, padding⟩]
    concatenates_S4x50000_S4x1200_S4x51200_d1

theorem v4 (c : Dev nD) : W1 m ρ c (Proc.devRef .tc main_call0_v4)
    = shapeCast S4x400x128 (anchorsFlat (W0 m ρ c (Proc.devRef .tc main_arg2))) shapeCasts_S4x51200_S4x400x128 := by
  after_results
  rfl

theorem padding_at (k : Fin 4) (n : Fin 1200) : padding (ix2 k n) = ((if k.val < 2 then 0 else 1 : ℝ) : EReal) := by
  have e : padding (ix2 k n) = FloatOps.ofBits (F := Ideal) .f32 (lit0 k) := by
    unfold padding
    pointwise
    exact congrArg (fun j => Ideal.ofBits .f32 (lit0 j)) (Fin.ext (Shape.rowMajor_val_one _))
  rw [e]
  show Ideal.ofBits .f32 (lit0 k) = _
  fin_cases k
  · show Ideal.ofBits .f32 0#32 = _
    rw [Ideal.ofBits_zero_f32]; simp
  · show Ideal.ofBits .f32 0#32 = _
    rw [Ideal.ofBits_zero_f32]; simp
  · show Ideal.ofBits .f32 0x3F800000#32 = _
    rw [Loss.bits_one]; simp
  · show Ideal.ofBits .f32 0x3F800000#32 = _
    rw [Loss.bits_one]; simp

/-- An anchor's coordinates, before the padding. -/
theorem anchors_real (c : Dev nD) (k : Fin 4) (q : Fin 400) (l : Fin 128) (h : q.val * 128 + l.val < 50000) :
    W1 m ρ c (Proc.devRef .tc main_call0_v4) (ix3 k q l)
      = m ((c : Thread nD τ).loc main_arg2) (ix2 ⟨q.val * 128 + l.val, h⟩ k) := by
  rw [v4, shapeCast_apply _ shapeCasts_S4x51200_S4x400x128 (ix3 k q l) (ix2 k ⟨q.val * 128 + l.val, by omega⟩)
    (by rw [Shape.rowMajor_val_three, Shape.rowMajor_val_two]; show k.val * 51200 + (q.val * 128 + l.val) = (k.val * 400 + q.val) * 128 + l.val; omega)]
  unfold anchorsFlat
  refine (concatenate_pair_apply_left (t := S4x51200) (s₁ := S4x50000) (s₂ := S4x1200) 1 _ _ _ _ rfl
    (ix2 k ⟨q.val * 128 + l.val, h⟩) (fun b => by fin_cases b <;> rfl)).trans ?_
  pointwise

/-- The padding's coordinates. -/
theorem anchors_pad (c : Dev nD) (k : Fin 4) (q : Fin 400) (l : Fin 128) (h : 50000 ≤ q.val * 128 + l.val) :
    W1 m ρ c (Proc.devRef .tc main_call0_v4) (ix3 k q l) = ((if k.val < 2 then 0 else 1 : ℝ) : EReal) := by
  rw [v4, shapeCast_apply _ shapeCasts_S4x51200_S4x400x128 (ix3 k q l) (ix2 k ⟨q.val * 128 + l.val, by omega⟩)
    (by rw [Shape.rowMajor_val_three, Shape.rowMajor_val_two]; show k.val * 51200 + (q.val * 128 + l.val) = (k.val * 400 + q.val) * 128 + l.val; omega)]
  unfold anchorsFlat
  refine (concatenate_pair_apply_right (t := S4x51200) (s₁ := S4x50000) (s₂ := S4x1200) 1 _ _ _ _ rfl rfl
    (ix2 k ⟨q.val * 128 + l.val - 50000, by omega⟩)
    (fun b hb => by
      fin_cases b
      · show k.val = k.val
        rfl
      · exact absurd (Fin.ext (by simp)) hb)
    (by show q.val * 128 + l.val - 50000 + 50000 = q.val * 128 + l.val; omega)).trans ?_
  exact padding_at k _

/-! ## The predictions' table -/

/-- The predictions, coordinates first, padded by zeros. -/
def predsFlat (a : FVec Ideal S8x50000x4 .f32) : FVec Ideal S8x4x51200 .f32 :=
  concatenate S8x4x51200 2 [⟨S8x4x50000, transpose S8x4x50000 [0, 2, 1] a transposes_S8x50000x4_S8x4x50000_0_2_1⟩,
    ⟨S8x4x1200, broadcastInDim S8x4x1200 ![] bcast_S_S8x4x1200 (constant S_ .f32 0x00000000#32)⟩]
    concatenates_S8x4x50000_S8x4x1200_S8x4x51200_d2

theorem v8 (c : Dev nD) : W1 m ρ c (Proc.devRef .tc main_call0_v8)
    = shapeCast S8x4x400x128 (predsFlat (W0 m ρ c (Proc.devRef .tc main_arg1))) shapeCasts_S8x4x51200_S8x4x400x128 := by
  after_results
  rfl

theorem preds_real (c : Dev nD) (b : Fin 8) (k : Fin 4) (q : Fin 400) (l : Fin 128) (h : q.val * 128 + l.val < 50000) :
    W1 m ρ c (Proc.devRef .tc main_call0_v8) (ix4 b k q l)
      = m ((c : Thread nD τ).loc main_arg1) (ix3 b ⟨q.val * 128 + l.val, h⟩ k) := by
  rw [v8, shapeCast_apply _ shapeCasts_S8x4x51200_S8x4x400x128 (ix4 b k q l) (ix3 b k ⟨q.val * 128 + l.val, by omega⟩)
    (by rw [Shape.rowMajor_val_three, Shape.rowMajor_val_four]; show (b.val * 4 + k.val) * 51200 + (q.val * 128 + l.val) = ((b.val * 4 + k.val) * 400 + q.val) * 128 + l.val; omega)]
  unfold predsFlat
  refine (concatenate_pair_apply_left (t := S8x4x51200) (s₁ := S8x4x50000) (s₂ := S8x4x1200) 2 _ _ _ _ rfl
    (ix3 b k ⟨q.val * 128 + l.val, h⟩) (fun b => by fin_cases b <;> rfl)).trans ?_
  pointwise

/-! ## The targets' table -/

/-- The targets' boxes and, below them, their labels as numbers. -/
def targetsTable (a : FVec Ideal S8x64x4 .f32) (b : IVec S8x64 32) : FVec Ideal S8x5x64 .f32 :=
  concatenate S8x5x64 1 [⟨S8x4x64, transpose S8x4x64 [0, 2, 1] a transposes_S8x64x4_S8x4x64_0_2_1⟩,
    ⟨S8x1x64, broadcastInDim S8x1x64 ![0, 2] bcast_S8x64_S8x1x64_0_2 (sitofp (F := Ideal) .f32 b)⟩]
    concatenates_S8x4x64_S8x1x64_S8x5x64_d1

theorem v12 (c : Dev nD) : W1 m ρ c (Proc.devRef .tc main_call0_v12)
    = targetsTable (W0 m ρ c (Proc.devRef .tc main_arg3)) (W0 m ρ c (Proc.devRef .tc main_arg4)) := by
  after_results
  rfl

theorem targets_box (c : Dev nD) (b : Fin 8) (k : Fin 4) (g : Fin 64) :
    W1 m ρ c (Proc.devRef .tc main_call0_v12) (ix3 b k.castSucc g)
      = m ((c : Thread nD τ).loc main_arg3) (ix3 b g k) := by
  rw [v12]
  unfold targetsTable
  refine (concatenate_pair_apply_left (t := S8x5x64) (s₁ := S8x4x64) (s₂ := S8x1x64) 1 _ _ _ _ rfl
    (ix3 b k g) (fun b => by fin_cases b <;> rfl)).trans ?_
  pointwise

theorem targets_label (c : Dev nD) (b : Fin 8) (g : Fin 64) :
    W1 m ρ c (Proc.devRef .tc main_call0_v12) (ix3 b 4 g)
      = (((m ((c : Thread nD τ).loc main_arg4) (ix2 b g) : BitVec 32).toInt : ℝ) : EReal) := by
  rw [v12]
  unfold targetsTable
  refine (concatenate_pair_apply_right (t := S8x5x64) (s₁ := S8x4x64) (s₂ := S8x1x64) 1 _ _ _ _ rfl rfl (ix3 b 0 g)
    (fun b hb => by fin_cases b <;> first | exact absurd rfl hb | rfl) (by rfl)).trans ?_
  pointwise
  rfl

/-! ## The labels that enter the second call -/

theorem v16 (c : Dev nD) : W3 m ρ c (Proc.devRef .tc main_call0_v16)
    = broadcastInDim S8x50000x1 ![0, 1] bcast_S8x50000_S8x50000x1_0_1
        (extractStridedSlice S8x50000 ![0, 0] (shapeCast S8x51200 (W2 m ρ c (Proc.devRef .tc main_call0_v13_0))
          shapeCasts_S8x400x128_S8x51200) slices_S8x51200_S8x50000_0_0) := by
  after_results
  rfl

theorem labels_real (c : Dev nD) (b : Fin 8) (q : Fin 400) (l : Fin 128) (h : q.val * 128 + l.val < 50000) :
    W3 m ρ c (Proc.devRef .tc main_call0_v16) (ix3 b ⟨q.val * 128 + l.val, h⟩ 0)
      = W2 m ρ c (Proc.devRef .tc main_call0_v13_0) (ix3 b q l) := by
  rw [v16]
  have e : broadcastInDim S8x50000x1 ![0, 1] bcast_S8x50000_S8x50000x1_0_1
        (extractStridedSlice S8x50000 ![0, 0] (shapeCast S8x51200 (W2 m ρ c (Proc.devRef .tc main_call0_v13_0))
          shapeCasts_S8x400x128_S8x51200) slices_S8x51200_S8x50000_0_0) (ix3 b ⟨q.val * 128 + l.val, h⟩ 0)
      = shapeCast S8x51200 (W2 m ρ c (Proc.devRef .tc main_call0_v13_0))
          shapeCasts_S8x400x128_S8x51200 (ix2 b ⟨q.val * 128 + l.val, by omega⟩) := by
    pointwise
  rw [e, shapeCast_apply _ shapeCasts_S8x400x128_S8x51200 (ix2 b ⟨q.val * 128 + l.val, by omega⟩) (ix3 b q l)
    (by rw [Shape.rowMajor_val_three, Shape.rowMajor_val_two]; show (b.val * 400 + q.val) * 128 + l.val = b.val * 51200 + (q.val * 128 + l.val); omega)]

/-! ## The results -/

/-- Lane `n` of every image's row. -/
def lane0 (x : FVec Ideal S8x1x128 .f32) : FVec Ideal S8 .f32 :=
  shapeCast S8 (extractStridedSlice S8x1x1 ![0, 0, 0] x slices_S8x1x128_S8x1x1_0_0_0) shapeCasts_S8x1x1_S8
def lane1 (x : FVec Ideal S8x1x128 .f32) : FVec Ideal S8 .f32 :=
  shapeCast S8 (extractStridedSlice S8x1x1 ![0, 0, 1] x slices_S8x1x128_S8x1x1_0_0_1) shapeCasts_S8x1x1_S8

theorem lane0_at (x : FVec Ideal S8x1x128 .f32) (b : Fin 8) : lane0 x (ix1 b) = x (ix3 b 0 0) := by
  unfold lane0
  pointwise
theorem lane1_at (x : FVec Ideal S8x1x128 .f32) (b : Fin 8) : lane1 x (ix1 b) = x (ix3 b 0 1) := by
  unfold lane1
  pointwise

/-- The images' sums `s`, each over its image's positive anchors `n` (at least one), added and divided by eight. -/
def mean (s n : FVec Ideal S8 .f32) : FVec Ideal S_ .f32 :=
  Host.divf (Host.reduceAdd (Host.divf s (maximumf (broadcastInDim S8 ![] bcast_S_S8 (constant S_ .f32 0x3F800000#32)) n))
    (constant S_ .f32 0x00000000#32) reducesTo_S8_S_d0 h_S_) (constant S_ .f32 0x41000000#32)

theorem mean_at (s n : FVec Ideal S8 .f32) (i : S_.Idx) :
    mean s n i = Ideal.div (∑ b : Fin 8, Ideal.div (s (ix1 b)) (max 1 (n (ix1 b)))) Loss.eight := by
  unfold mean
  pointwise
  rw [Loss.bits_eight]

theorem classes (c : Dev nD) : W5 m ρ c (Proc.devRef .tc main_v0_1)
    = mean (lane0 (W4 m ρ c (Proc.devRef .tc main_call0_v17))) (lane1 (W4 m ρ c (Proc.devRef .tc main_call0_v13_1))) := by
  after_results
  rfl
theorem boxes (c : Dev nD) : W5 m ρ c (Proc.devRef .tc main_v0_2)
    = mean (lane0 (W4 m ρ c (Proc.devRef .tc main_call0_v13_1))) (lane1 (W4 m ρ c (Proc.devRef .tc main_call0_v13_1))) := by
  after_results
  rfl
theorem both (c : Dev nD) : W5 m ρ c (Proc.devRef .tc main_v0_0)
    = addf (mean (lane0 (W4 m ρ c (Proc.devRef .tc main_call0_v17))) (lane1 (W4 m ρ c (Proc.devRef .tc main_call0_v13_1))))
        (mean (lane0 (W4 m ρ c (Proc.devRef .tc main_call0_v13_1))) (lane1 (W4 m ρ c (Proc.devRef .tc main_call0_v13_1)))) := by
  after_results
  rfl

end Cert.KernelIdeal.Around
end
-- ==== Proof.Pre.lean ====
/-
  What the precondition says: every logit lies below infinity, and no target overlaps the unit box by half or more.
-/
module

public import proofs.«01_k».proof.Proof.Spec
public import proofs.«01_k».proof.Proof.Gen.Pre_logits_below_infinity_and_no_target_on_the_unit_box
public import proofs.«01_k».proof.Defs
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pointwise

namespace Cert.Loss

open Cert.Pre_logits_below_infinity_and_no_target_on_the_unit_box

/-- The box the anchors are padded by. -/
def unitBox : Fin 4 → EReal := fun k => ((if k.val < 2 then 0 else 1 : ℝ) : EReal)

theorem below_of_ofBool {x y : EReal} (h : Ideal.cmp .olt x y = 1#1) : x < y := by
  unfold Ideal.cmp at h
  by_contra hn
  simp [hn] at h

variable (a0 : FVec Ideal S8x50000x80 .f32) (a1 : FVec Ideal S8x50000x4 .f32) (a2 : FVec Ideal S50000x4 .f32)
  (a3 : FVec Ideal S8x64x4 .f32) (a4 : IVec S8x64 32)

theorem logits_below (h : (fn (F := Ideal) a0 a1 a2 a3 a4).1 = fun _ => 1#1) (b : Fin 8) (n : Fin 50000) (k : Fin 80) :
    a0 (ix3 b n k) < ⊤ := by
  have := congrFun h (ix3 b n k)
  have e : (fn (F := Ideal) a0 a1 a2 a3 a4).1 (ix3 b n k) = Ideal.cmp .olt (a0 (ix3 b n k)) (Ideal.ofBits .f32 0x7F800000#32) := by
    unfold fn fn_part1
    pointwise
  rw [e, bits_top] at this
  exact below_of_ofBool this

theorem targets_off (h : (fn (F := Ideal) a0 a1 a2 a3 a4).2 = fun _ => 1#1) (b : Fin 8) (g : Fin 64) :
    overlap unitBox (fun k => a3 (ix3 b g k)) < half := by
  have := congrFun h (ix2 b g)
  have e : (fn (F := Ideal) a0 a1 a2 a3 a4).2 (ix2 b g)
      = Ideal.cmp .olt (overlap unitBox (fun k => a3 (ix3 b g k))) half := by
    unfold fn fn_part1
    pointwise
    have h0 : unitBox 0 = 0 := by simp [unitBox]
    have h1 : unitBox 1 = 0 := by simp [unitBox]
    have h2 : unitBox 2 = 1 := by simp [unitBox]
    have h3 : unitBox 3 = 1 := by simp [unitBox]
    have ha : area unitBox = 1 := by unfold area; rw [h0, h1, h2, h3, sub_zero, mul_one]
    unfold overlap
    rw [ha, bits_half]
    unfold inter shared area
    rw [h0, h1, h2, h3, min_comm 1, min_comm 1, max_comm 0, max_comm 0]
    rfl
  rw [e] at this
  exact below_of_ofBool this

end Cert.Loss

end
-- ==== Proof.Sums.lean ====
/-
  Sums taken block by block, as one sum: a grid of blocks is a row, and what lies past the last anchor adds nothing.
-/
module

public import proofs.«01_k».proof.Proof.BlockSum
public import proofs.«01_k».proof.Proof.Pre

@[expose] public section

noncomputable section

namespace Cert.Loss

/-- A sum over `m` groups of `n`, as one sum. -/
theorem regroup {m n N : ℕ} (hN : m * n = N) (f : Fin m → Fin n → EReal) (h : Fin N → EReal)
    (e : ∀ (i : Fin m) (j : Fin n) (hq : i.val * n + j.val < N), f i j = h ⟨i.val * n + j.val, hq⟩) :
    ∑ i, ∑ j, f i j = ∑ q, h q := by
  subst hN
  rw [← Fintype.sum_prod_type']
  refine Fintype.sum_equiv finProdFinEquiv _ _ fun x => ?_
  have hx : x.1.val * n + x.2.val = (finProdFinEquiv x).val := by
    show _ = x.2.val + n * x.1.val
    ring
  have hq : x.1.val * n + x.2.val < m * n := hx ▸ (finProdFinEquiv x).isLt
  rw [e x.1 x.2 hq]
  exact congrArg h (Fin.ext hx)

/-- A sum whose last 1200 members are zero. -/
theorem drop_tail (h : Fin 51200 → EReal) (g : Fin 50000 → EReal)
    (h1 : ∀ (n : ℕ) (hn : n < 50000), h ⟨n, by omega⟩ = g ⟨n, hn⟩)
    (h2 : ∀ (n : ℕ) (hn : n < 51200), 50000 ≤ n → h ⟨n, hn⟩ = 0) : ∑ q, h q = ∑ n, g n := by
  rw [show ∑ q, h q = ∑ q : Fin (50000 + 1200), h ⟨q.val, q.isLt⟩ from rfl, Fin.sum_univ_add]
  have e2 : ∑ i : Fin 1200, h ⟨(Fin.natAdd 50000 i : Fin (50000 + 1200)).val, (Fin.natAdd 50000 i : Fin (50000 + 1200)).isLt⟩ = 0 :=
    Finset.sum_eq_zero fun i _ => h2 _ _ (by show 50000 ≤ 50000 + i.val; omega)
  rw [e2, add_zero]
  exact Finset.sum_congr rfl fun i _ => h1 i.val i.isLt

/-- The sum over all rows and lanes, taken in 25 blocks of 16 rows, is the sum over the anchors. -/
theorem sum_rows (f : Fin 400 → Fin 128 → EReal) (g : Fin 50000 → EReal)
    (h1 : ∀ (q : Fin 400) (l : Fin 128) (hn : q.val * 128 + l.val < 50000), f q l = g ⟨q.val * 128 + l.val, hn⟩)
    (h2 : ∀ (q : Fin 400) (l : Fin 128), 50000 ≤ q.val * 128 + l.val → f q l = 0) :
    ∑ j : Fin 25, ∑ r : Fin 16, ∑ l : Fin 128, f ⟨j.val * 16 + r.val, by omega⟩ l = ∑ n, g n := by
  rw [regroup (N := 400) rfl (fun j r => ∑ l : Fin 128, f ⟨j.val * 16 + r.val, by omega⟩ l) (fun q => ∑ l, f q l)
    (fun i j hq => rfl)]
  rw [regroup (N := 51200) rfl f (fun n => f ⟨n.val / 128, by omega⟩ ⟨n.val % 128, by omega⟩) (fun q l hq => by
    congr 1 <;> apply Fin.ext <;> show _ = _ <;> simp only <;> omega)]
  refine drop_tail _ g (fun n hn => ?_) (fun n hn h => ?_)
  · rw [h1 _ _ (by show n / 128 * 128 + n % 128 < 50000; omega)]
    exact congrArg g (Fin.ext (by show n / 128 * 128 + n % 128 = n; omega))
  · exact h2 _ _ (by show 50000 ≤ n / 128 * 128 + n % 128; omega)

/-- The sum over all anchors, taken in 25 blocks of 2000. -/
theorem sum_blocks (g : Fin 50000 → EReal) :
    ∑ j : Fin 25, ∑ r : Fin 2000, g ⟨j.val * 2000 + r.val, by omega⟩ = ∑ n, g n :=
  regroup (N := 50000) rfl (fun (j : Fin 25) (r : Fin 2000) => g ⟨j.val * 2000 + r.val, by omega⟩) g (fun _ _ _ => rfl)

/-- The greatest overlap with the padding box stays below one half. -/
theorem padding_off (t : Fin 64 → Fin 4 → EReal) (h : ∀ g, overlap unitBox (t g) < half) :
    ¬ half ≤ top (fun g => overlap unitBox (t g)) :=
  not_le.mpr ((at_first fun g => overlap unitBox (t g)) ▸ h _)

theorem counted_padding (t : Fin 64 → Fin 4 → EReal) (h : ∀ g, overlap unitBox (t g) < half) :
    counted (fun g => overlap unitBox (t g)) = 0 := if_neg (padding_off t h)

theorem distance_padding (p : Fin 4 → EReal) (t : Fin 64 → Fin 4 → EReal) (h : ∀ g, overlap unitBox (t g) < half) :
    distance unitBox p t = 0 := if_neg (padding_off t h)

end Cert.Loss

end
-- ==== Proof.KernelValue.lean ====
/-
  The kernel's three results as numbers: sums over the anchors and classes, of the overlaps' labels and distances.
-/
module

public import proofs.«01_k».proof.Proof.Arrays0
public import proofs.«01_k».proof.Proof.Arrays1
public import proofs.«01_k».proof.Proof.Host
public import proofs.«01_k».proof.Proof.Sums

@[expose] public section

set_option maxRecDepth 16384

noncomputable section

open Idealize.ShloMosaic Idealize.ShloMosaic.TcCoe Idealize.SL.Sem
open Idealize.ShloMosaic.Pointwise

namespace Cert.Loss

/-- The arguments' numbers: logits, predictions, anchors, targets, labels. -/
structure Input where
  logits : Fin 8 → Fin 50000 → Fin 80 → EReal
  preds : Fin 8 → Fin 50000 → Fin 4 → EReal
  anchors : Fin 50000 → Fin 4 → EReal
  targets : Fin 8 → Fin 64 → Fin 4 → EReal
  labels : Fin 8 → Fin 64 → BitVec 32

namespace Input

variable (A : Input)

/-- The overlaps of anchor `n` with image `b`'s targets. -/
def overlaps (b : Fin 8) (n : Fin 50000) : Fin 64 → EReal := fun g => overlap (A.anchors n) (A.targets b g)

/-- The label of a target as a number. -/
def number (b : Fin 8) (g : Fin 64) : EReal := (((A.labels b g).toInt : ℝ) : EReal)

/-- How many anchors of image `b` are positive. -/
def count (b : Fin 8) : EReal := ∑ n, counted (A.overlaps b n)

/-- The classification loss of image `b`. -/
def classes (b : Fin 8) : EReal :=
  ∑ n, ∑ k : Fin 80, cell (A.logits b n k) (label (A.overlaps b n) (A.number b)) k.val

/-- The regression loss of image `b`. -/
def boxes (b : Fin 8) : EReal := ∑ n, distance (A.anchors n) (A.preds b n) (A.targets b)

/-- The images' losses, each over its count (at least one), averaged. -/
def mean (s : Fin 8 → EReal) : EReal := Ideal.div (∑ b, Ideal.div (s b) (max 1 (A.count b))) eight

/-- No target overlaps the unit box by half or more. -/
def Off : Prop := ∀ b g, overlap unitBox (A.targets b g) < half

end Input

end Cert.Loss

namespace Cert.KernelIdeal.Around

open Cert.KernelIdeal Cert.KernelIdeal.Gen

variable (m : (ℓ : Loc nD τ sig) → Buf (Elt Ideal) ℓ) (ρ : Dev nD → PrngReg) (c : Dev nD)

/-- The numbers of the kernel's arguments. -/
def input : Loss.Input where
  logits b n k := m ((c : Thread nD τ).loc main_arg0) (ix3 b n k)
  preds b n k := m ((c : Thread nD τ).loc main_arg1) (ix3 b n k)
  anchors n k := m ((c : Thread nD τ).loc main_arg2) (ix2 n k)
  targets b g k := m ((c : Thread nD τ).loc main_arg3) (ix3 b g k)
  labels b g := m ((c : Thread nD τ).loc main_arg4) (ix2 b g)

theorem target_at (b : Fin 8) : Anchors.targetAt (V1 m ρ) c b = (input m c).targets b :=
  funext fun g => funext fun k => targets_box m ρ c b k g

theorem label_at (b : Fin 8) : Anchors.labelAt (V1 m ρ) c b = (input m c).number b :=
  funext fun g => targets_label m ρ c b g

theorem anchor_real (q : Fin 400) (l : Fin 128) (h : q.val * 128 + l.val < 50000) :
    Anchors.anchorAt (V1 m ρ) c q l = (input m c).anchors ⟨q.val * 128 + l.val, h⟩ :=
  funext fun k => anchors_real m ρ c k q l h

theorem anchor_pad (q : Fin 400) (l : Fin 128) (h : 50000 ≤ q.val * 128 + l.val) :
    Anchors.anchorAt (V1 m ρ) c q l = Loss.unitBox :=
  funext fun k => anchors_pad m ρ c k q l h

theorem pred_real (b : Fin 8) (q : Fin 400) (l : Fin 128) (h : q.val * 128 + l.val < 50000) :
    Anchors.predAt (V1 m ρ) c b q l = (input m c).preds b ⟨q.val * 128 + l.val, h⟩ :=
  funext fun k => preds_real m ρ c b k q l h

theorem overlaps_real (b : Fin 8) (q : Fin 400) (l : Fin 128) (h : q.val * 128 + l.val < 50000) :
    Anchors.overlapsAt (V1 m ρ) c b q l = (input m c).overlaps b ⟨q.val * 128 + l.val, h⟩ := by
  unfold Anchors.overlapsAt Loss.Input.overlaps
  rw [anchor_real m ρ c q l h, target_at]

theorem overlaps_pad (b : Fin 8) (q : Fin 400) (l : Fin 128) (h : 50000 ≤ q.val * 128 + l.val) :
    Anchors.overlapsAt (V1 m ρ) c b q l = fun g => Loss.overlap Loss.unitBox ((input m c).targets b g) := by
  unfold Anchors.overlapsAt
  rw [anchor_pad m ρ c q l h, target_at]

variable (hoff : (input m c).Off)
include hoff

/-- The first call's lane 0: the image's regression loss. -/
theorem sums_0 (b : Fin 8) : Anchors.sumsAt (V1 m ρ) c b 0 = (input m c).boxes b := by
  unfold Anchors.sumsAt
  have e : ∀ j : Fin 25, ((if (0 : Fin 128).val = 0 then ∑ r : Fin 16, ∑ l : Fin 128,
        Loss.distance (Anchors.anchorAt (V1 m ρ) c (Anchors.line j r) l)
            (Anchors.predAt (V1 m ρ) c b (Anchors.line j r) l) (Anchors.targetAt (V1 m ρ) c b) else 0)
        + (if (0 : Fin 128).val = 1 then ∑ r : Fin 16, ∑ l : Fin 128, Loss.counted (Anchors.overlapsAt (V1 m ρ) c b (Anchors.line j r) l) else 0))
      = ∑ r : Fin 16, ∑ l : Fin 128,
        Loss.distance (Anchors.anchorAt (V1 m ρ) c ⟨j.val * 16 + r.val, by omega⟩ l)
            (Anchors.predAt (V1 m ρ) c b ⟨j.val * 16 + r.val, by omega⟩ l) (Anchors.targetAt (V1 m ρ) c b) := fun j => by
    rw [if_pos (show (0 : Fin 128).val = 0 from rfl), if_neg (show ¬(0 : Fin 128).val = 1 by decide), add_zero]
    rfl
  rw [Finset.sum_congr rfl fun j _ => e j]
  refine Loss.sum_rows (fun q l => Loss.distance (Anchors.anchorAt (V1 m ρ) c q l)
    (Anchors.predAt (V1 m ρ) c b q l) (Anchors.targetAt (V1 m ρ) c b)) _ (fun q l h => ?_) (fun q l h => ?_)
  · show Loss.distance _ _ _ = Loss.distance _ _ _
    rw [anchor_real m ρ c q l h, pred_real m ρ c b q l h, target_at]
  · show Loss.distance _ _ _ = 0
    rw [anchor_pad m ρ c q l h, target_at]
    exact Loss.distance_padding _ _ (hoff b)

/-- The first call's lane 1: the image's count. -/
theorem sums_1 (b : Fin 8) : Anchors.sumsAt (V1 m ρ) c b 1 = (input m c).count b := by
  unfold Anchors.sumsAt
  have e : ∀ j : Fin 25, ((if (1 : Fin 128).val = 0 then ∑ r : Fin 16, ∑ l : Fin 128,
        Loss.distance (Anchors.anchorAt (V1 m ρ) c (Anchors.line j r) l)
            (Anchors.predAt (V1 m ρ) c b (Anchors.line j r) l) (Anchors.targetAt (V1 m ρ) c b) else 0)
        + (if (1 : Fin 128).val = 1 then ∑ r : Fin 16, ∑ l : Fin 128, Loss.counted (Anchors.overlapsAt (V1 m ρ) c b (Anchors.line j r) l) else 0))
      = ∑ r : Fin 16, ∑ l : Fin 128, Loss.counted (Anchors.overlapsAt (V1 m ρ) c b ⟨j.val * 16 + r.val, by omega⟩ l) := fun j => by
    rw [if_neg (show ¬(1 : Fin 128).val = 0 by decide), if_pos (show (1 : Fin 128).val = 1 from rfl), zero_add]
    rfl
  rw [Finset.sum_congr rfl fun j _ => e j]
  refine Loss.sum_rows (fun q l => Loss.counted (Anchors.overlapsAt (V1 m ρ) c b q l)) _ (fun q l h => ?_) (fun q l h => ?_)
  · show Loss.counted _ = Loss.counted _
    rw [overlaps_real m ρ c b q l h]
  · show Loss.counted _ = 0
    rw [overlaps_pad m ρ c b q l h]
    exact Loss.counted_padding _ (hoff b)

omit hoff in
/-- The label that enters the second call for anchor `n`. -/
theorem entering_label (b : Fin 8) (n : Fin 50000) :
    V3 m ρ c main_call0_v16 (ix3 b n 0) = Loss.label ((input m c).overlaps b n) ((input m c).number b) := by
  have hn : (⟨n.val / 128, by omega⟩ : Fin 400).val * 128 + (⟨n.val % 128, by omega⟩ : Fin 128).val < 50000 := by
    show n.val / 128 * 128 + n.val % 128 < 50000; omega
  have hq : (⟨(⟨n.val / 128, by omega⟩ : Fin 400).val * 128 + (⟨n.val % 128, by omega⟩ : Fin 128).val, hn⟩ : Fin 50000) = n :=
    Fin.ext (by show n.val / 128 * 128 + n.val % 128 = n.val; omega)
  have h1 := labels_real m ρ c b ⟨n.val / 128, by omega⟩ ⟨n.val % 128, by omega⟩ hn
  rw [hq] at h1
  refine h1.trans ?_
  have h2 : W2 m ρ c (Proc.devRef .tc main_call0_v13_0) = (dat0 (V1 m ρ) c).arrAt 3 cfg0.N := W2_arr m ρ c 3
  rw [h2, Anchors.labels_array, overlaps_real m ρ c b _ _ hn, label_at, hq]

omit hoff in
/-- The second call's lane 0: the image's classification loss. -/
theorem sums_2 (b : Fin 8) : Classes.sumsAt (V3 m ρ) c b 0 = (input m c).classes b := by
  unfold Classes.sumsAt Loss.Input.classes
  refine Eq.trans (Finset.sum_congr rfl fun j _ => if_pos rfl) ?_
  refine Eq.trans (Finset.sum_congr rfl fun j _ => Finset.sum_congr rfl fun r _ => ?_)
    (Loss.sum_blocks fun n => ∑ k : Fin 80, Loss.cell ((input m c).logits b n k) (Loss.label ((input m c).overlaps b n) ((input m c).number b)) k.val)
  refine Finset.sum_congr rfl fun k _ => ?_
  unfold Classes.cellAt
  rw [entering_label]
  show Loss.cell _ _ _ = Loss.cell _ _ _
  congr 1

theorem row_1 (b : Fin 8) (l : Fin 128) : W4 m ρ c (Proc.devRef .tc main_call0_v13_1) (ix3 b 0 l) = Anchors.sumsAt (V1 m ρ) c b l := by
  have h : W4 m ρ c (Proc.devRef .tc main_call0_v13_1) = (dat0 (V1 m ρ) c).arrAt 4 cfg0.N :=
    (W4_of m ρ c main_call0_v13_1 (by decide)).trans ((W3_of m ρ c main_call0_v13_1 (by decide)).trans (W2_arr m ρ c 4))
  rw [h]
  exact Anchors.sums_array (V1 m ρ) c b l

theorem row_2 (b : Fin 8) (l : Fin 128) : W4 m ρ c (Proc.devRef .tc main_call0_v17) (ix3 b 0 l) = Classes.sumsAt (V3 m ρ) c b l := by
  have h : W4 m ρ c (Proc.devRef .tc main_call0_v17) = (dat1 (V3 m ρ) c).arrAt 2 cfg1.N := W4_arr m ρ c 2
  rw [h]
  exact Classes.sums_array (V3 m ρ) c b l

/-- The classification result. -/
theorem classes_value (i : S_.Idx) : W5 m ρ c (Proc.devRef .tc main_v0_1) i = (input m c).mean (input m c).classes := by
  rw [classes, mean_at]
  unfold Loss.Input.mean
  simp only [lane0_at, lane1_at]
  simp only [row_1 m ρ c hoff, row_2 m ρ c hoff, sums_1 m ρ c hoff, sums_2]

/-- The regression result. -/
theorem boxes_value (i : S_.Idx) : W5 m ρ c (Proc.devRef .tc main_v0_2) i = (input m c).mean (input m c).boxes := by
  rw [boxes, mean_at]
  unfold Loss.Input.mean
  simp only [lane0_at, lane1_at]
  simp only [row_1 m ρ c hoff, sums_1 m ρ c hoff, sums_0 m ρ c hoff]

/-- The total. -/
theorem total_value (i : S_.Idx) : W5 m ρ c (Proc.devRef .tc main_v0_0) i
    = (input m c).mean (input m c).classes + (input m c).mean (input m c).boxes := by
  have h1 := classes_value m ρ c hoff i
  have h2 := boxes_value m ρ c hoff i
  rw [classes] at h1
  rw [boxes] at h2
  rw [both]
  exact congrArg₂ (· + ·) h1 h2

end Cert.KernelIdeal.Around

end
-- ==== Proof.RefTop.lean ====
/-
  The reference's overlaps: of each anchor with each target, the greatest one, whether the anchor is positive, and how
  many of an image's anchors are.
-/
module

public import proofs.«01_k».proof.Proof.Gen.ReferenceIdeal.Read
public import Idealize.ShloMosaic.Lib.Pointwise
public import proofs.«01_k».proof.Proof.KernelValue

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

variable (x2 : FVec Ideal S50000x4 .f32) (x3 : FVec Ideal S8x64x4 .f32) (b : Fin 8) (n : Fin 50000) (g : Fin 64)

/-- Anchor `n`. -/
abbrev anchor : Fin 4 → EReal := fun k => x2 (ix2 n k)
/-- The targets of image `b`. -/
abbrev targets : Fin 64 → Fin 4 → EReal := fun g k => x3 (ix3 b g k)
/-- The overlaps of anchor `n` with the targets of image `b`. -/
abbrev overlaps : Fin 64 → EReal := fun g => Loss.overlap (anchor x2 n) (targets x3 b g)

theorem sides_at (k : Fin 2) : val_main_v38 (F := Ideal) x2 x3 (ix4 b n g k)
    = min (x2 (ix2 n ⟨2 + k.val, by omega⟩)) (x3 (ix3 b g ⟨2 + k.val, by omega⟩)) - max (x2 (ix2 n ⟨k.val, by omega⟩)) (x3 (ix3 b g ⟨k.val, by omega⟩)) := by
  unfold val_main_v38 val_main_v37 val_main_v36 val_main_v35 val_main_v34 val_main_v33 val_main_v32 val_main_v31 val_main_v30
    val_main_v29 val_main_v28 val_main_v27 val_main_v26 val_main_v25 val_main_v24 val_main_v23 val_main_v22
  pointwise

theorem clipped_at (k : Fin 2) : val_main_v39 (F := Ideal) x2 x3 (ix4 b n g k) = max (val_main_v38 (F := Ideal) x2 x3 (ix4 b n g k)) 0 := by
  rw [val_main_v39_apply, val_main_call0_v1_apply]
  show max (Ideal.ofBits .f32 0x00000000#32) _ = _
  rw [Ideal.ofBits_zero_f32, max_comm]

theorem inter_at : val_main_v44 (F := Ideal) x2 x3 (ix3 b n g) = Loss.inter (anchor x2 n) (targets x3 b g) := by
  unfold val_main_v44 val_main_v43 val_main_v42 val_main_v41 val_main_v40
  pointwise
  rw [clipped_at, clipped_at, sides_at, sides_at]
  rfl

theorem target_area_at : val_main_v21 (F := Ideal) x3 (ix2 b g) = Loss.area (targets x3 b g) := by
  unfold val_main_v21 val_main_v20 val_main_v19 val_main_v18 val_main_v17 val_main_v16 val_main_v15 val_main_v14 val_main_v13
    val_main_v12 val_main_v11
  pointwise
  rfl

theorem overlap_at : val_main_v54 (F := Ideal) x2 x3 (ix3 b n g) = overlaps x2 x3 b n g := by
  unfold val_main_v54 val_main_v53 val_main_v51 val_main_v50 val_main_v52 val_main_v48 val_main_v49 val_main_v47 val_main_v46
    val_main_v45 val_main_cst_0
  unfold val_main_v10 val_main_v9 val_main_v8 val_main_v7 val_main_v6 val_main_v5  val_main_v4 val_main_v3 val_main_v2 val_main_v1 val_main_v0
  pointwise
  rw [inter_at, target_area_at]
  rfl

theorem fold_top (v : Fin 64 → EReal) : Finset.univ.fold max ⊥ v = Loss.top v := by
  refine le_antisymm ?_ (Finset.sup_le fun g _ => ?_)
  · exact (Finset.fold_max_le _).mpr ⟨bot_le, fun g _ => Loss.le_top v g⟩
  · exact (Finset.le_fold_max _).mpr (Or.inr ⟨g, Finset.mem_univ g, le_refl _⟩)

theorem reduce_top (y : FVec Ideal S8x50000x64 .f32) (z : FVec Ideal S_ .f32) (hz : z (Shape.Idx.first h_S_) = (⊥ : EReal)) :
    Host.reduce (FloatOps.maximumf (F := Ideal) (φ := .f32)) y z reducesTo_S8x50000x64_S8x50000_d2 h_S_ (ix2 b n)
      = Loss.top fun g => y (ix3 b n g) := by
  pointwise
  rw [hz]
  exact fold_top _

theorem start_bot (i : S_.Idx) : val_main_cst_1 (F := Ideal) i = (⊥ : EReal) := by
  rw [val_main_cst_1_apply]
  exact Loss.bits_bot

theorem top_at : val_main_v55 (F := Ideal) x2 x3 (ix2 b n) = Loss.top (overlaps x2 x3 b n) := by
  unfold val_main_v55
  refine (reduce_top b n _ _ (start_bot _)).trans (congrArg Loss.top (funext fun g => ?_))
  exact overlap_at x2 x3 b n g

open Classical in
theorem compare_half (t : EReal) : Ideal.cmp .oge t (Ideal.ofBits .f32 0x3F000000#32) = BitVec.ofBool (decide (Loss.half ≤ t)) := by
  rw [Loss.bits_half]
  unfold Ideal.cmp
  by_cases h : Loss.half ≤ t
  · simp only [h]
  · simp only [h]

open Classical in
theorem positive_at : val_main_v63 (F := Ideal) x2 x3 (ix2 b n)
    = BitVec.ofBool (decide (Loss.half ≤ Loss.top (overlaps x2 x3 b n))) := by
  refine Eq.trans ?_ (compare_half _)
  rw [val_main_v63_apply, val_main_v62_apply, val_main_cst_3_apply, top_at]
  exact Ideal.cmpf_def .oge _ _

theorem counted_at : val_main_v64 (F := Ideal) x2 x3 (ix2 b n) = Loss.counted (overlaps x2 x3 b n) := by
  rw [val_main_v64_apply, positive_at]
  unfold Loss.counted
  by_cases h : Loss.half ≤ Loss.top (overlaps x2 x3 b n)
  · rw [if_pos h, decide_eq_true h]
    show (((1#1 : BitVec 1).toNat : ℝ) : EReal) = 1
    simp
  · rw [if_neg h, decide_eq_false h]
    show (((0#1 : BitVec 1).toNat : ℝ) : EReal) = 0
    simp

theorem count_at : val_main_v65 (F := Ideal) x2 x3 (ix1 b) = ∑ n, Loss.counted (overlaps x2 x3 b n) := by
  unfold val_main_v65 val_main_cst_4
  pointwise
  simp only [counted_at]

end Cert.ReferenceIdeal.Numbers

end
-- ==== Proof.RefIndex.lean ====
/-
  The reference's choice of a target: the least index whose overlap is the greatest one, and the target's label and box
  read at that index.
-/
module

public import proofs.«01_k».proof.Proof.RefTop
public import Idealize.ShloMosaic.Lib.ReduceAll

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

/-! ## The least index -/

theorem word_toInt : ∀ g : Fin 64, (BitVec.ofNat 32 g.val).toInt = (g.val : ℤ) := by decide

theorem min_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

open Classical in
/-- The least of the words of the places that reach the greatest number is the first place's. -/
theorem fold_first (v : Fin 64 → EReal) :
    Finset.univ.fold IntOp.minsi (2147483647#32) (fun g : Fin 64 => if v g = Loss.top v then BitVec.ofNat 32 g.val else 63#32)
      = BitVec.ofNat 32 (Loss.first v).val := by
  refine BitVec.eq_of_toInt_eq ?_
  rw [← Finset.fold_hom (op := IntOp.minsi) (op' := (min : ℤ → ℤ → ℤ)) (m := BitVec.toInt) min_toInt, word_toInt]
  refine le_antisymm ((Finset.fold_min_le _).mpr (Or.inr ⟨Loss.first v, Finset.mem_univ _, ?_⟩))
    ((Finset.le_fold_min _).mpr ⟨?_, fun g _ => ?_⟩)
  · rw [if_pos (Loss.at_first v), word_toInt]
  · have := (Loss.first v).isLt
    show ((Loss.first v).val : ℤ) ≤ 2147483647
    omega
  · by_cases h : v g = Loss.top v
    · rw [if_pos h, word_toInt]
      exact_mod_cast Loss.first_le v g h
    · rw [if_neg h]
      have := (Loss.first v).isLt
      show ((Loss.first v).val : ℤ) ≤ 63
      omega

variable (x2 : FVec Ideal S50000x4 .f32) (x3 : FVec Ideal S8x64x4 .f32) (x4 : IVec S8x64 32) (b : Fin 8) (n : Fin 50000) (g : Fin 64)

open Classical in
theorem word_at : val_main_v60 (F := Ideal) x2 x3 (ix3 b n g)
    = if overlaps x2 x3 b n g = Loss.top (overlaps x2 x3 b n) then BitVec.ofNat 32 g.val else 63#32 := by
  unfold val_main_v60 val_main_v59 val_main_v58 val_main_v57 val_main_call1_v3 val_main_call1_v2 val_main_call1_v1 val_main_call1_v0
    val_main_c val_main_v56
  pointwise
  rw [overlap_at, top_at]
  by_cases h : overlaps x2 x3 b n g = Loss.top (overlaps x2 x3 b n)
  · rw [if_pos h, if_pos h]
  · rw [if_neg h, if_neg h]
    rfl

theorem index_at : val_main_v61 (F := Ideal) x2 x3 (ix2 b n) = BitVec.ofNat 32 (Loss.first (overlaps x2 x3 b n)).val := by
  unfold val_main_v61 val_main_c_2
  pointwise
  simp only [word_at]
  exact fold_first _

/-! ## The label at the index -/

theorem not_neg : ∀ g : Fin 64, IntOp.cmpi .slt (BitVec.ofNat 32 g.val) 0#32 = 0#1 := by decide
theorem not_below : ∀ g : Fin 64, IntOp.cmpi .sge (BitVec.ofNat 32 g.val) 0#32 = 1#1 := by decide
theorem not_above : ∀ g : Fin 64, IntOp.cmpi .sle (BitVec.ofNat 32 g.val) 63#32 = 1#1 := by decide

theorem start_at (z : Fin 1) : val_main_call2_v5 (F := Ideal) x2 x3 (ix3 b n z) = BitVec.ofNat 32 (Loss.first (overlaps x2 x3 b n)).val := by
  unfold val_main_call2_v5 val_main_call2_v4 val_main_call2_v3 val_main_call2_v2 val_main_call2_v1 val_main_call2_v0 val_main_call2_c
    val_main_call2_c_0
  pointwise
  rw [index_at, not_neg]
  try rfl

theorem inside_at (i : S8x50000.Idx) : val_main_call2_v12 (F := Ideal) x2 x3 i = 1#1 := by
  unfold val_main_call2_v12
  refine Host.reduce_andi_one _ _ _ _ _ rfl fun i => ?_
  obtain ⟨b, n, z, rfl⟩ : ∃ (b : Fin 8) (n : Fin 50000) (z : Fin 1), i = ix3 b n z := by
    idx_vars i; exact ⟨_, _, _, rfl⟩
  unfold val_main_call2_v11 val_main_call2_v10 val_main_call2_v9 val_main_call2_v8 val_main_call2_v7 val_main_call2_v6
    val_main_call2_c_1 val_main_call2_c_2
  pointwise
  rw [start_at]
  rw [not_below, not_above]
  rfl

theorem start2_at (z : Fin 1) : val_main_call6_v5 (F := Ideal) x2 x3 (ix3 b n z) = BitVec.ofNat 32 (Loss.first (overlaps x2 x3 b n)).val := by
  unfold val_main_call6_v5 val_main_call6_v4 val_main_call6_v3 val_main_call6_v2 val_main_call6_v1 val_main_call6_v0 val_main_call6_c
    val_main_call6_c_0
  pointwise
  rw [index_at, not_neg]
  try rfl

theorem inside2_at (i : S8x50000.Idx) : val_main_call6_v12 (F := Ideal) x2 x3 i = 1#1 := by
  unfold val_main_call6_v12
  refine Host.reduce_andi_one _ _ _ _ _ rfl fun i => ?_
  obtain ⟨b, n, z, rfl⟩ : ∃ (b : Fin 8) (n : Fin 50000) (z : Fin 1), i = ix3 b n z := by
    idx_vars i; exact ⟨_, _, _, rfl⟩
  unfold val_main_call6_v11 val_main_call6_v10 val_main_call6_v9 val_main_call6_v8 val_main_call6_v7 val_main_call6_v6
    val_main_call6_c_1 val_main_call6_c_2
  pointwise
  rw [start2_at]
  rw [not_below, not_above]
  rfl

abbrev rows := gather_S8x64_S8x50000x1_S8x50000_n_1_0_0_1_2_11
abbrev boxes := gather_S8x64x4_S8x50000x1_S8x50000x4_2_1_0_0_1_2_114

/-- A row of words read at the start index of image `b` and anchor `n`. -/
theorem gather_at (idx : IVec S8x50000x1 32) (h : idx (ix3 b n 0) = BitVec.ofNat 32 g.val) :
    Host.gather rows x4 idx (ix2 b n) = x4 (ix2 b g) := by
  unfold Host.gather
  congr 1
  funext a
  refine Fin.ext ?_
  show rows.start (ix2 b n) idx a + rows.batchCoord (ix2 b n) a
      + rows.offCoord (ix2 b n) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ rows.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ rows.startIndexMap from List.mem_singleton.mpr rfl)]
    have hsi : rows.siIdx (ix2 b n) ⟨List.idxOf (1 : Fin 2) rows.startIndexMap,
        List.idxOf_lt_length_iff.2 (List.mem_singleton.mpr rfl)⟩ = ix3 b n 0 := by
      funext b'; refine Fin.ext ?_
      match b' with
      | ⟨0, _⟩ => rfl
      | ⟨1, _⟩ => rfl
      | ⟨2, _⟩ => rfl
    rw [hsi, h, word_toInt]
    have := g.isLt
    show min ((g.val : ℤ).toNat) 63 = g.val
    omega

/-- A row of boxes read at the start index of image `b` and anchor `n`. -/
theorem gather2_at (idx : IVec S8x50000x1 32) (h : idx (ix3 b n 0) = BitVec.ofNat 32 g.val) (k : Fin 4) :
    Host.gather boxes x3 idx (ix3 b n k) = x3 (ix3 b g k) := by
  unfold Host.gather
  congr 1
  funext a
  refine Fin.ext ?_
  show boxes.start (ix3 b n k) idx a + boxes.batchCoord (ix3 b n k) a
      + boxes.offCoord (ix3 b n k) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ boxes.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ boxes.startIndexMap from List.mem_singleton.mpr rfl)]
    have hsi : boxes.siIdx (ix3 b n k) ⟨List.idxOf (1 : Fin 3) boxes.startIndexMap,
        List.idxOf_lt_length_iff.2 (List.mem_singleton.mpr rfl)⟩ = ix3 b n 0 := by
      funext b'; refine Fin.ext ?_
      match b' with
      | ⟨0, _⟩ => rfl
      | ⟨1, _⟩ => rfl
      | ⟨2, _⟩ => rfl
    rw [hsi, h, word_toInt]
    have := g.isLt
    show min ((g.val : ℤ).toNat) 63 = g.val
    omega
  · rw [GatherDims.batchCoord_eq_zero _ _ _ (fun h => absurd (List.mem_singleton.mp h) (by decide))]
    unfold GatherDims.start GatherDims.offCoord
    rw [dif_neg (show (2 : Fin 3) ∉ boxes.startIndexMap from fun h => absurd (List.mem_singleton.mp h) (by decide)),
      dif_pos (show (2 : Fin 3) ∈ boxes.sKept by decide)]
    have only : ∀ (i : Nat) (h : i < boxes.offsetDims.length), boxes.offsetDims[i] = (2 : Fin 3) := fun i h => by
      obtain rfl : i = 0 := Nat.lt_one_iff.mp h
      rfl
    refine (Nat.zero_add _).trans ?_
    exact congrArg (fun d : Fin 3 => (ix3 b n k d).val) (only _ _)

/-- The label of the chosen target. -/
theorem label_at : val_main_v66 (F := Ideal) x2 x3 x4 (ix2 b n) = x4 (ix2 b (Loss.first (overlaps x2 x3 b n))) := by
  rw [val_main_v66_apply, inside_at]
  unfold val_main_call2_v13
  exact gather_at x4 b n (Loss.first (overlaps x2 x3 b n)) _ (start_at x2 x3 b n 0)

/-- The box of the chosen target. -/
theorem box_at (k : Fin 4) : val_main_v125 (F := Ideal) x2 x3 (ix3 b n k) = x3 (ix3 b (Loss.first (overlaps x2 x3 b n)) k) := by
  rw [val_main_v125_apply, val_main_call6_v14_apply, inside2_at]
  unfold val_main_call6_v13
  exact gather2_at x3 b n (Loss.first (overlaps x2 x3 b n)) _ (start2_at x2 x3 b n 0) k

end Cert.ReferenceIdeal.Numbers

end
-- ==== Proof.Quotients.lean ====
/-
  The aims of a positive anchor: its sides are not zero, so a product with a reciprocal is the quotient, and a multiple
  of ten or five is the quotient by a tenth or a fifth.
-/
module

public import proofs.«01_k».proof.Proof.Spec
public import proofs.«01_k».proof.Proof.BlockSum

@[expose] public section

noncomputable section

open Idealize.ShloMosaic

namespace Cert.Loss

/-- The offset of two intervals' centres over the first one's extent, over `s`. -/
def offset (s alo ahi blo bhi : EReal) : EReal :=
  Ideal.div (Ideal.div (blo + half * (bhi - blo) - (alo + half * (ahi - alo))) (ahi - alo)) s

/-- The logarithm of the quotient of two intervals' extents, over `s`. -/
def ratio (s alo ahi blo bhi : EReal) : EReal := Ideal.div (Ideal.log (Ideal.div (bhi - blo) (ahi - alo))) s

theorem div_eq (x y : EReal) (h : y ≠ 0) : Ideal.div x y = x * y⁻¹ := by
  unfold Ideal.div
  rw [if_neg h]

theorem mul_reciprocal (x y : EReal) (h : y ≠ 0) : x * Ideal.div 1 y = Ideal.div x y := by
  rw [div_eq _ _ h, div_eq _ _ h, one_mul]

theorem tenth : Ideal.div 1 ten = ((1 / 10 : ℝ) : EReal) := by
  rw [div_eq _ _ (EReal.coe_ne_zero.mpr (by norm_num)), one_mul, ← EReal.coe_inv]
  norm_num

theorem fifth : Ideal.div two ten = ((1 / 5 : ℝ) : EReal) := by
  rw [div_eq _ _ (EReal.coe_ne_zero.mpr (by norm_num)), ← EReal.coe_inv, ← EReal.coe_mul]
  norm_num

theorem over_tenth (x : EReal) : Ideal.div x (Ideal.div 1 ten) = x * ten := by
  rw [tenth, div_eq _ _ (by norm_num), ← EReal.coe_inv]
  norm_num

theorem over_fifth (x : EReal) : Ideal.div x (Ideal.div two ten) = x * five := by
  rw [fifth, div_eq _ _ (by norm_num), ← EReal.coe_inv]
  norm_num

theorem offset_eq (alo ahi blo bhi : EReal) (h : ahi - alo ≠ 0) :
    offset (Ideal.div 1 ten) alo ahi blo bhi = shift alo ahi blo bhi := by
  unfold offset shift
  rw [over_tenth, mul_reciprocal _ _ h]

theorem ratio_eq (alo ahi blo bhi : EReal) (h : ahi - alo ≠ 0) :
    ratio (Ideal.div two ten) alo ahi blo bhi = scale alo ahi blo bhi := by
  unfold ratio scale
  rw [over_fifth, mul_reciprocal _ _ h]

/-! ## A positive anchor's sides are not zero -/

theorem sides_equal (lo hi : EReal) (h : hi - lo = 0) : ∃ r : ℝ, lo = r ∧ hi = r := by
  induction lo using EReal.rec with
  | top => rw [EReal.sub_top] at h; exact absurd h (by simp)
  | bot =>
    induction hi using EReal.rec with
    | bot => exact absurd h (by simp)
    | top => exact absurd h (by simp)
    | coe s => exact absurd h (by simp)
  | coe r =>
    induction hi using EReal.rec with
    | bot => exact absurd h (by simp)
    | top => exact absurd h (by simp)
    | coe s =>
      refine ⟨r, rfl, ?_⟩
      have : s - r = 0 := by exact_mod_cast h
      rw [sub_eq_zero.mp this]

theorem shared_zero (lo hi glo ghi : EReal) (h : hi - lo = 0) : shared lo hi glo ghi = 0 := by
  obtain ⟨r, rfl, rfl⟩ := sides_equal lo hi h
  unfold shared
  refine max_eq_right ?_
  refine (EReal.sub_le_sub (min_le_left _ _) (le_max_left _ _)).trans ?_
  rw [h]

theorem half_pos : (0 : EReal) < half := by
  rw [← EReal.coe_zero]; exact_mod_cast (by norm_num : (0 : ℝ) < 1 / 2)

theorem zero_div_lt (y : EReal) : Ideal.div 0 y < half := by
  unfold Ideal.div
  by_cases h : y = 0
  · rw [if_pos h, if_neg (lt_irrefl _)]
    exact bot_lt_iff_ne_bot.mpr (by simp)
  · rw [if_neg h, zero_mul]
    exact half_pos

theorem width_ne_zero (a t : Fin 4 → EReal) (h : half ≤ overlap a t) : a 2 - a 0 ≠ 0 := fun e => by
  refine absurd h (not_le.mpr ?_)
  unfold overlap inter
  rw [shared_zero _ _ _ _ e, zero_mul]
  exact zero_div_lt _

theorem height_ne_zero (a t : Fin 4 → EReal) (h : half ≤ overlap a t) : a 3 - a 1 ≠ 0 := fun e => by
  refine absurd h (not_le.mpr ?_)
  unfold overlap inter
  rw [shared_zero (a 1) _ _ _ e, mul_zero]
  exact zero_div_lt _

/-- The four smooth distances by quotients. -/
def quotients (a p t : Fin 4 → EReal) : EReal :=
  smooth (p 0) (offset (Ideal.div 1 ten) (a 0) (a 2) (t 0) (t 2)) + smooth (p 1) (offset (Ideal.div 1 ten) (a 1) (a 3) (t 1) (t 3))
    + smooth (p 2) (ratio (Ideal.div two ten) (a 0) (a 2) (t 0) (t 2)) + smooth (p 3) (ratio (Ideal.div two ten) (a 1) (a 3) (t 1) (t 3))

open Classical in
/-- The positive anchor's distance by quotients is the kernel's; the others' is nothing. -/
theorem quotients_distance (a p : Fin 4 → EReal) (t : Fin 64 → Fin 4 → EReal) :
    (if half ≤ top (fun g => overlap a (t g)) then quotients a p (t (first fun g => overlap a (t g))) else 0) = distance a p t := by
  unfold distance
  by_cases h : half ≤ top (fun g => overlap a (t g))
  · rw [if_pos h, if_pos h]
    have h' : half ≤ overlap a (t (first fun g => overlap a (t g))) := (at_first fun g => overlap a (t g)) ▸ h
    unfold quotients dist
    rw [offset_eq _ _ _ _ (width_ne_zero a _ h'), offset_eq _ _ _ _ (height_ne_zero a _ h'), ratio_eq _ _ _ _ (width_ne_zero a _ h'),
      ratio_eq _ _ _ _ (height_ne_zero a _ h')]
  · rw [if_neg h, if_neg h]

end Cert.Loss

end
-- ==== Proof.Focal.lean ====
/-
  The focal loss of one logit: the kernel's two forms, one for the target's class and one for the others, are the one
  formula with the target zero or one.
-/
module

public import proofs.«01_k».proof.Proof.Spec
public import proofs.«01_k».proof.Proof.BlockSum
public import proofs.«01_k».proof.Proof.Block1

@[expose] public section

noncomputable section

open Idealize.ShloMosaic

namespace Cert.Loss

open Classical in
/-- The focal loss of a logit `l` against the target number `t`. -/
def focal (l t : EReal) : EReal :=
  ((if t = 1 then quarter else threeQuarters)
      * Ideal.pow (1 - (if t = 1 then Ideal.div 1 (1 + Ideal.exp (-l)) else 1 - Ideal.div 1 (1 + Ideal.exp (-l)))) two)
    * ((max l 0 - l * t) + Ideal.log1p (Ideal.exp (-(max l (-l)))))

/-! ## Real numbers -/

/-- The logistic function. -/
def sig (r : ℝ) : ℝ := 1 / (1 + Real.exp (-r))
/-- The logarithm of one plus the exponential. -/
def soft (r : ℝ) : ℝ := max r 0 + Real.log (1 + Real.exp (-|r|))

theorem one_add_pos (r : ℝ) : 0 < 1 + Real.exp r := by positivity

theorem div_real (x y : ℝ) (h : 0 < y) : Ideal.div (x : EReal) (y : EReal) = ((x / y : ℝ) : EReal) := by
  unfold Ideal.div
  rw [if_neg (by exact_mod_cast h.ne')]
  rw [← EReal.coe_inv, ← EReal.coe_mul, div_eq_mul_inv]

theorem one_add_exp (r : ℝ) : (1 : EReal) + Ideal.exp (r : EReal) = ((1 + Real.exp r : ℝ) : EReal) := by
  rw [EReal.coe_add, EReal.coe_one]; rfl

theorem logistic_real (r : ℝ) : Ideal.div 1 (1 + Ideal.exp (-(r : EReal))) = (sig r : EReal) := by
  rw [← EReal.coe_neg, one_add_exp, ← EReal.coe_one, div_real _ _ (one_add_pos _)]
  rfl

theorem abs_real (r : ℝ) : max (r : EReal) (-(r : EReal)) = ((|r| : ℝ) : EReal) := by
  rw [← EReal.coe_neg, abs_eq_max_neg]
  exact (EReal.coe_strictMono.monotone.map_max).symm

theorem zero_sub_abs (r : ℝ) : (0 : EReal) - max (r : EReal) (-(r : EReal)) = ((-|r| : ℝ) : EReal) := by
  rw [abs_real, zero_sub, ← EReal.coe_neg]

theorem prob_real (r : ℝ) : prob (r : EReal) = (sig r : EReal) := by
  unfold prob
  rw [zero_sub_abs, one_add_exp, ← EReal.coe_one, div_real _ _ (one_add_pos _)]
  by_cases h : 0 ≤ r
  · rw [if_pos (by exact_mod_cast h), abs_of_nonneg h]
    rfl
  · rw [if_neg (by exact_mod_cast h), abs_of_neg (not_le.mp h), ← EReal.coe_sub]
    congr 1
    unfold sig
    have e : Real.exp r * Real.exp (-r) = 1 := by rw [← Real.exp_add]; simp
    have h1 := one_add_pos r
    have h2 := one_add_pos (-r)
    rw [neg_neg]
    field_simp
    nlinarith [e]

theorem log_real (y : ℝ) (h : 0 < y) : Ideal.log (y : EReal) = (Real.log y : EReal) := by
  show (if y ≤ 0 then (⊥ : EReal) else ((Real.log y : ℝ) : EReal)) = _
  rw [if_neg (not_le.mpr h)]

theorem max_zero (r : ℝ) : max (r : EReal) 0 = ((max r 0 : ℝ) : EReal) := by
  rw [← EReal.coe_zero]
  exact (EReal.coe_strictMono.monotone.map_max).symm

theorem softplus_real (r : ℝ) : softplus (r : EReal) = (soft r : EReal) := by
  unfold softplus
  rw [zero_sub_abs, one_add_exp, log_real _ (one_add_pos _), max_zero, ← EReal.coe_add]
  rfl

theorem log1p_real (r : ℝ) : Ideal.log1p (Ideal.exp (-(max (r : EReal) (-(r : EReal))))) = ((Real.log (1 + Real.exp (-|r|)) : ℝ) : EReal) := by
  unfold Ideal.log1p
  rw [abs_real, ← EReal.coe_neg, one_add_exp, log_real _ (one_add_pos _)]

theorem square_real (x : ℝ) : Ideal.pow (x : EReal) two = ((x * x : ℝ) : EReal) := by
  show ((Real.rpow x 2 : ℝ) : EReal) = _
  congr 1
  show x ^ (2 : ℝ) = x * x
  rw [Real.rpow_two, sq]

/-! ## The logit that is minus infinity -/

theorem exp_bot : Ideal.exp ⊥ = 0 := rfl
theorem exp_top : Ideal.exp ⊤ = ⊤ := rfl

theorem div_one_one : Ideal.div 1 1 = 1 := by
  rw [← EReal.coe_one, div_real 1 1 one_pos]; norm_num

theorem prob_bot : prob ⊥ = 0 := by
  unfold prob
  rw [if_neg (by simp), EReal.neg_bot, max_eq_right bot_le, zero_sub, EReal.neg_top, exp_bot, add_zero, div_one_one]
  rw [← EReal.coe_one, ← EReal.coe_sub]; simp

theorem log_one : Ideal.log 1 = 0 := by
  rw [← EReal.coe_one, log_real 1 one_pos]; simp

theorem softplus_bot : softplus ⊥ = 0 := by
  unfold softplus
  rw [EReal.neg_bot, max_eq_right bot_le, max_eq_right bot_le, zero_sub, EReal.neg_top, exp_bot, add_zero, log_one, add_zero]

theorem logistic_bot : Ideal.div 1 (1 + Ideal.exp (-⊥)) = 0 := by
  rw [EReal.neg_bot, exp_top]
  have : (1 : EReal) + ⊤ = ⊤ := by rw [← EReal.coe_one]; exact EReal.coe_add_top 1
  rw [this]
  unfold Ideal.div
  rw [if_neg (by simp), EReal.inv_top, mul_zero]

/-! ## The two forms -/

theorem focal_zero (l : EReal) (h : l < ⊤) : focal l 0 = miss l := by
  unfold focal miss
  rw [if_neg (by simp), if_neg (by simp), mul_zero, sub_zero]
  induction l using EReal.rec with
  | top => exact absurd h (lt_irrefl _)
  | bot =>
    rw [logistic_bot, prob_bot, softplus_bot]
    have e : (1 : EReal) - (1 - 0) = ((0 : ℝ) : EReal) := by
      rw [sub_zero, ← EReal.coe_one, ← EReal.coe_sub]; simp
    rw [e, square_real]
    simp
  | coe r =>
    rw [logistic_real, prob_real, softplus_real, log1p_real, max_zero]
    rw [← EReal.coe_one, ← EReal.coe_sub, ← EReal.coe_sub, square_real]
    rw [← EReal.coe_mul, ← EReal.coe_mul, ← EReal.coe_add, ← EReal.coe_mul, ← EReal.coe_mul, ← EReal.coe_mul]
    congr 1
    unfold soft
    ring

theorem focal_one (l : EReal) (h : l < ⊤) : focal l 1 = miss l + (hit l - miss l) := by
  unfold focal miss hit
  rw [if_pos rfl, if_pos rfl, mul_one]
  induction l using EReal.rec with
  | top => exact absurd h (lt_irrefl _)
  | bot =>
    rw [logistic_bot, prob_bot, softplus_bot, EReal.neg_bot, max_eq_right bot_le, max_eq_right bot_le, EReal.neg_top, exp_bot]
    unfold Ideal.log1p
    rw [add_zero, log_one, add_zero, zero_sub, EReal.neg_bot, sub_zero, mul_zero, sub_zero, zero_add]
    rw [← EReal.coe_one, square_real, ← EReal.coe_mul, ← EReal.coe_mul, ← EReal.coe_mul]
  | coe r =>
    rw [logistic_real, prob_real, softplus_real, log1p_real, max_zero]
    rw [← EReal.coe_one, ← EReal.coe_sub, square_real]
    rw [← EReal.coe_sub, ← EReal.coe_add, ← EReal.coe_mul, ← EReal.coe_mul]
    rw [← EReal.coe_mul, ← EReal.coe_mul, ← EReal.coe_mul, ← EReal.coe_sub, ← EReal.coe_mul, ← EReal.coe_mul, ← EReal.coe_mul,
      ← EReal.coe_sub, ← EReal.coe_add]
    congr 1
    unfold soft
    ring

open Classical in
/-- The kernel's cell is the focal loss against the one-hot target. -/
theorem focal_cell (l lab : EReal) (c : Nat) (h : l < ⊤) :
    focal l (if lab = ((c : ℝ) : EReal) then 1 else 0) = cell l lab c := by
  unfold cell
  by_cases e : lab = ((c : ℝ) : EReal)
  · rw [if_pos e, if_pos e, focal_one l h]
  · rw [if_neg e, if_neg e, focal_zero l h, add_zero]

end Cert.Loss

end
-- ==== Proof.RefClasses.lean ====
/-
  The reference's classification loss: the one-hot target, the focal loss of each logit, and the sum over an image.
-/
module

public import proofs.«01_k».proof.Proof.RefIndex
public import proofs.«01_k».proof.Proof.Focal

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

/-! ## Words and comparisons -/

theorem ofBits_eq (b : BitVec 32) : FloatOps.ofBits (F := Ideal) .f32 b = Ideal.ofBits .f32 b := rfl

theorem one_word (b : BitVec 1) : (FloatOps.uitofp (F := Ideal) .f32 b : EReal) = if b = 1#1 then 1 else 0 := by
  show ((b.toNat : ℝ) : EReal) = _
  rcases BitVec.eq_zero_or_eq_one b with rfl | rfl
  · simp
  · simp

open Classical in
theorem select_eq (x y : EReal) (a b : EReal) :
    Scalar.select (FloatOps.cmpf (F := Ideal) (φ := .f32) .oeq x y) a b = if x = y then a else b := by
  rw [Ideal.cmpf_def]
  unfold Scalar.select Ideal.cmp
  by_cases h : x = y
  · rw [if_pos h]; simp only [h]; exact if_pos rfl
  · rw [if_neg h]; simp only [h]; exact if_neg (by decide)

theorem class_word (w : BitVec 32) : ∀ k : Fin 80, w = BitVec.ofNat 32 k.val ↔ ((w.toInt : ℝ) : EReal) = ((k.val : ℝ) : EReal) := by
  intro k
  have hk : (BitVec.ofNat 32 k.val).toInt = (k.val : ℤ) := by revert k; decide
  constructor
  · rintro rfl
    rw [hk]; simp
  · intro h
    refine BitVec.eq_of_toInt_eq ?_
    rw [hk]
    have := EReal.coe_injective h
    exact_mod_cast this

variable (x0 : FVec Ideal S8x50000x80 .f32) (x2 : FVec Ideal S50000x4 .f32) (x3 : FVec Ideal S8x64x4 .f32) (x4 : IVec S8x64 32)
  (b : Fin 8) (n : Fin 50000) (k : Fin 80)

/-! ## The one-hot target -/

/-- The label of each target of image `b`, as a number. -/
abbrev numbers : Fin 64 → EReal := fun g => (((x4 (ix2 b g)).toInt : ℝ) : EReal)

open Classical in
theorem hot_at : val_main_v67 (F := Ideal) x2 x3 x4 (ix3 b n k)
    = if numbers x4 b (Loss.first (overlaps x2 x3 b n)) = ((k.val : ℝ) : EReal) then 1 else 0 := by
  have e : val_main_call3_v5 (F := Ideal) x2 x3 x4 (ix3 b n k)
      = IntOp.cmpi .eq (x4 (ix2 b (Loss.first (overlaps x2 x3 b n)))) (BitVec.ofNat 32 k.val) := by
    unfold val_main_call3_v5 val_main_call3_v4 val_main_call3_v3 val_main_call3_v2 val_main_call3_v1 val_main_call3_v0
    pointwise
    rw [label_at]
  rw [val_main_v67_apply, one_word, e]
  refine if_congr ?_ rfl rfl
  show BitVec.ofBool (decide _) = 1#1 ↔ _
  rw [← class_word]
  by_cases h : x4 (ix2 b (Loss.first (overlaps x2 x3 b n))) = BitVec.ofNat 32 k.val
  · simp [h]
  · simp [h]

theorem spread_at : val_main_v69 (F := Ideal) x2 x3 (ix3 b n k) = Loss.counted (overlaps x2 x3 b n) := by
  unfold val_main_v69 val_main_v68
  pointwise
  exact counted_at x2 x3 b n

open Classical in
/-- The one-hot target: one for the class of a positive anchor's target. -/
theorem target_at : val_main_v70 (F := Ideal) x2 x3 x4 (ix3 b n k)
    = if Loss.label (overlaps x2 x3 b n) (numbers x4 b) = ((k.val : ℝ) : EReal) then 1 else 0 := by
  rw [val_main_v70_apply, hot_at, spread_at]
  show (_ : EReal) * _ = _
  unfold Loss.counted Loss.label
  by_cases h : Loss.half ≤ Loss.top (overlaps x2 x3 b n)
  · rw [if_pos h, if_pos h, mul_one]
  · rw [if_neg h, if_neg h, mul_zero, if_neg]
    intro e
    have e' : ((-1 : ℝ) : EReal) = ((k.val : ℝ) : EReal) := by rw [← e]; simp
    have := EReal.coe_injective e'
    have h0 : (0 : ℝ) ≤ (k.val : ℝ) := Nat.cast_nonneg _
    linarith

/-! ## The focal loss -/

theorem logistic_at (i : S8x50000x80.Idx) : val_main_v76 (F := Ideal) x0 i = Ideal.div 1 (1 + Ideal.exp (-(x0 i))) := by
  rw [val_main_v76_apply, val_main_v75_apply, val_main_v74_apply, val_main_v73_apply, val_main_v72_apply, val_main_v71_apply,
    val_main_cst_5_apply, val_main_cst_6_apply, ofBits_eq, Loss.bits_one]
  rfl

open Classical in
theorem chosen_at (i : S8x50000x80.Idx) : val_main_v81 (F := Ideal) x0 x2 x3 x4 i
    = if val_main_v70 (F := Ideal) x2 x3 x4 i = (1 : EReal) then val_main_v76 (F := Ideal) x0 i else (1 : EReal) - val_main_v76 (F := Ideal) x0 i := by
  rw [val_main_v81_apply, val_main_v78_apply, val_main_v77_apply, val_main_cst_7_apply, val_main_v80_apply, val_main_v79_apply,
    val_main_cst_8_apply, ofBits_eq, Loss.bits_one]
  exact select_eq _ _ _ _

open Classical in
theorem weight_at (i : S8x50000x80.Idx) : val_main_v84 (F := Ideal) x2 x3 x4 i
    = if val_main_v70 (F := Ideal) x2 x3 x4 i = (1 : EReal) then Loss.quarter else Loss.threeQuarters := by
  rw [val_main_v84_apply, val_main_v83_apply, val_main_v82_apply, val_main_cst_9_apply, val_main_call5_v3_apply, val_main_call5_v2_apply,
    val_main_call5_v1_apply, val_main_call5_v0_apply, val_main_cst_10_apply, val_main_cst_11_apply, ofBits_eq, ofBits_eq, ofBits_eq,
    Loss.bits_one, Loss.bits_quarter, Loss.bits_threeQuarters]
  exact select_eq _ _ _ _

theorem cross_at (i : S8x50000x80.Idx) : val_main_v99 (F := Ideal) x0 x2 x3 x4 i
    = (max (x0 i) 0 - x0 i * val_main_v70 (F := Ideal) x2 x3 x4 i) + Ideal.log1p (Ideal.exp (-(max (x0 i) (-(x0 i))))) := by
  rw [val_main_v99_apply, val_main_v98_apply, val_main_v97_apply, val_main_v96_apply, val_main_v95_apply, val_main_v94_apply,
    val_main_v93_apply, val_main_v92_apply, val_main_v91_apply, val_main_cst_14_apply, ofBits_eq, Ideal.ofBits_zero_f32]
  rfl

theorem focal_at (i : S8x50000x80.Idx) : val_main_v100 (F := Ideal) x0 x2 x3 x4 i
    = Loss.focal (x0 i) (val_main_v70 (F := Ideal) x2 x3 x4 i) := by
  rw [val_main_v100_apply, cross_at, val_main_v90_apply, val_main_v89_apply, weight_at, val_main_v88_apply, val_main_v87_apply,
    val_main_v86_apply, val_main_v85_apply, val_main_cst_12_apply, val_main_cst_13_apply, chosen_at, logistic_at,
    ofBits_eq, ofBits_eq, Loss.bits_one, Loss.bits_two]
  rfl

/-- Each term of the classification loss is the kernel's cell. -/
theorem cell_at (h : x0 (ix3 b n k) < (⊤ : EReal)) : val_main_v100 (F := Ideal) x0 x2 x3 x4 (ix3 b n k)
    = Loss.cell (x0 (ix3 b n k)) (Loss.label (overlaps x2 x3 b n) (numbers x4 b)) k.val := by
  rw [focal_at, target_at]
  exact Loss.focal_cell _ _ _ h

/-- An image's classification loss. -/
theorem classes_at (h : ∀ n k, x0 (ix3 b n k) < (⊤ : EReal)) : val_main_v101 (F := Ideal) x0 x2 x3 x4 (ix1 b)
    = ∑ n, ∑ k : Fin 80, Loss.cell (x0 (ix3 b n k)) (Loss.label (overlaps x2 x3 b n) (numbers x4 b)) k.val := by
  unfold val_main_v101 val_main_cst_15
  pointwise
  refine Finset.sum_congr rfl fun n _ => Finset.sum_congr rfl fun k _ => ?_
  exact cell_at x0 x2 x3 x4 b n k (h n k)

end Cert.ReferenceIdeal.Numbers

end
-- ==== Proof.RefBoxes.lean ====
/-
  The reference's regression loss: the aims of each anchor at its chosen target, the smooth distances from them, and the
  sum over an image.
-/
module

public import proofs.«01_k».proof.Proof.RefIndex
public import proofs.«01_k».proof.Proof.Quotients
public import proofs.«01_k».proof.Proof.RefClasses

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

variable (x1 : FVec Ideal S8x50000x4 .f32) (x2 : FVec Ideal S50000x4 .f32) (x3 : FVec Ideal S8x64x4 .f32)
  (b : Fin 8) (n : Fin 50000) (k : Fin 4)

/-! ## The anchor's sides and centre -/

theorem width_at : val_main_v109 (F := Ideal) x2 (ix1 n) = x2 (ix2 n 2) - x2 (ix2 n 0) := by
  unfold val_main_v109 val_main_v108 val_main_v107 val_main_v106 val_main_v105
  pointwise

theorem height_at : val_main_v114 (F := Ideal) x2 (ix1 n) = x2 (ix2 n 3) - x2 (ix2 n 1) := by
  unfold val_main_v114 val_main_v113 val_main_v112 val_main_v111 val_main_v110
  pointwise

theorem centre_x_at : val_main_v119 (F := Ideal) x2 (ix1 n) = x2 (ix2 n 0) + Loss.half * (x2 (ix2 n 2) - x2 (ix2 n 0)) := by
  have e : val_main_v116 (F := Ideal) x2 (ix1 n) = x2 (ix2 n 0) := by
    unfold val_main_v116 val_main_v115
    pointwise
  rw [val_main_v119_apply, e, val_main_v118_apply, val_main_v117_apply, val_main_cst_17_apply, width_at, ofBits_eq, Loss.bits_half]
  rfl

theorem centre_y_at : val_main_v124 (F := Ideal) x2 (ix1 n) = x2 (ix2 n 1) + Loss.half * (x2 (ix2 n 3) - x2 (ix2 n 1)) := by
  have e : val_main_v121 (F := Ideal) x2 (ix1 n) = x2 (ix2 n 1) := by
    unfold val_main_v121 val_main_v120
    pointwise
  rw [val_main_v124_apply, e, val_main_v123_apply, val_main_v122_apply, val_main_cst_18_apply, height_at, ofBits_eq, Loss.bits_half]
  rfl

/-! ## The chosen target's sides and centre -/

/-- The box of the chosen target. -/
abbrev chosen : Fin 4 → EReal := targets x3 b (Loss.first (overlaps x2 x3 b n))

theorem target_width_at : val_main_v130 (F := Ideal) x2 x3 (ix2 b n) = chosen x2 x3 b n 2 - chosen x2 x3 b n 0 := by
  unfold val_main_v130 val_main_v129 val_main_v128 val_main_v127 val_main_v126
  pointwise
  rw [box_at, box_at]

theorem target_height_at : val_main_v135 (F := Ideal) x2 x3 (ix2 b n) = chosen x2 x3 b n 3 - chosen x2 x3 b n 1 := by
  unfold val_main_v135 val_main_v134 val_main_v133 val_main_v132 val_main_v131
  pointwise
  rw [box_at, box_at]

theorem target_x_at : val_main_v140 (F := Ideal) x2 x3 (ix2 b n)
    = chosen x2 x3 b n 0 + Loss.half * (chosen x2 x3 b n 2 - chosen x2 x3 b n 0) := by
  have e : val_main_v137 (F := Ideal) x2 x3 (ix2 b n) = chosen x2 x3 b n 0 := by
    unfold val_main_v137 val_main_v136
    pointwise
    rw [box_at]
  rw [val_main_v140_apply, e, val_main_v139_apply, val_main_v138_apply, val_main_cst_19_apply, target_width_at, ofBits_eq, Loss.bits_half]
  rfl

theorem target_y_at : val_main_v145 (F := Ideal) x2 x3 (ix2 b n)
    = chosen x2 x3 b n 1 + Loss.half * (chosen x2 x3 b n 3 - chosen x2 x3 b n 1) := by
  have e : val_main_v142 (F := Ideal) x2 x3 (ix2 b n) = chosen x2 x3 b n 1 := by
    unfold val_main_v142 val_main_v141
    pointwise
    rw [box_at]
  rw [val_main_v145_apply, e, val_main_v144_apply, val_main_v143_apply, val_main_cst_20_apply, target_height_at, ofBits_eq, Loss.bits_half]
  rfl

/-! ## The aims -/

theorem tenth_at (i : S_.Idx) : val_main_v166 (F := Ideal) i = Ideal.div 1 Loss.ten := by
  rw [val_main_v166_apply, val_main_cst_21_apply, val_main_cst_22_apply, ofBits_eq, ofBits_eq, Loss.bits_one, Loss.bits_ten]
  rfl

theorem fifth_at (i : S_.Idx) : val_main_v167 (F := Ideal) i = Ideal.div Loss.two Loss.ten := by
  rw [val_main_v167_apply, val_main_cst_23_apply, val_main_cst_24_apply, ofBits_eq, ofBits_eq, Loss.bits_two, Loss.bits_ten]
  rfl

theorem aim_x_at : val_main_v169 (F := Ideal) x2 x3 (ix2 b n)
    = Loss.offset (Ideal.div 1 Loss.ten) (anchor x2 n 0) (anchor x2 n 2) (chosen x2 x3 b n 0) (chosen x2 x3 b n 2) := by
  have e1 : val_main_v147 (F := Ideal) x2 (ix2 b n) = val_main_v119 (F := Ideal) x2 (ix1 n) := by
    unfold val_main_v147 val_main_v146
    pointwise
  have e2 : val_main_v150 (F := Ideal) x2 (ix2 b n) = val_main_v109 (F := Ideal) x2 (ix1 n) := by
    unfold val_main_v150 val_main_v149
    pointwise
  rw [val_main_v169_apply, val_main_v168_apply, tenth_at, val_main_v151_apply, val_main_v148_apply, e1, e2, target_x_at, centre_x_at,
    width_at]
  rfl

theorem aim_y_at : val_main_v171 (F := Ideal) x2 x3 (ix2 b n)
    = Loss.offset (Ideal.div 1 Loss.ten) (anchor x2 n 1) (anchor x2 n 3) (chosen x2 x3 b n 1) (chosen x2 x3 b n 3) := by
  have e1 : val_main_v153 (F := Ideal) x2 (ix2 b n) = val_main_v124 (F := Ideal) x2 (ix1 n) := by
    unfold val_main_v153 val_main_v152
    pointwise
  have e2 : val_main_v156 (F := Ideal) x2 (ix2 b n) = val_main_v114 (F := Ideal) x2 (ix1 n) := by
    unfold val_main_v156 val_main_v155
    pointwise
  rw [val_main_v171_apply, val_main_v170_apply, tenth_at, val_main_v157_apply, val_main_v154_apply, e1, e2, target_y_at, centre_y_at,
    height_at]
  rfl

theorem aim_w_at : val_main_v173 (F := Ideal) x2 x3 (ix2 b n)
    = Loss.ratio (Ideal.div Loss.two Loss.ten) (anchor x2 n 0) (anchor x2 n 2) (chosen x2 x3 b n 0) (chosen x2 x3 b n 2) := by
  have e2 : val_main_v159 (F := Ideal) x2 (ix2 b n) = val_main_v109 (F := Ideal) x2 (ix1 n) := by
    unfold val_main_v159 val_main_v158
    pointwise
  rw [val_main_v173_apply, val_main_v172_apply, fifth_at, val_main_v161_apply, val_main_v160_apply, e2, target_width_at, width_at]
  rfl

theorem aim_h_at : val_main_v175 (F := Ideal) x2 x3 (ix2 b n)
    = Loss.ratio (Ideal.div Loss.two Loss.ten) (anchor x2 n 1) (anchor x2 n 3) (chosen x2 x3 b n 1) (chosen x2 x3 b n 3) := by
  have e2 : val_main_v163 (F := Ideal) x2 (ix2 b n) = val_main_v114 (F := Ideal) x2 (ix1 n) := by
    unfold val_main_v163 val_main_v162
    pointwise
  rw [val_main_v175_apply, val_main_v174_apply, fifth_at, val_main_v165_apply, val_main_v164_apply, e2, target_height_at, height_at]
  rfl

end Cert.ReferenceIdeal.Numbers

end
-- ==== Proof.RefSmooth.lean ====
/-
  The reference's smooth distances: the four aims joined, the distance of a prediction from each, and their sum over an
  image's positive anchors.
-/
module

public import proofs.«01_k».proof.Proof.RefBoxes

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

variable (x1 : FVec Ideal S8x50000x4 .f32) (x2 : FVec Ideal S50000x4 .f32) (x3 : FVec Ideal S8x64x4 .f32)
  (b : Fin 8) (n : Fin 50000) (k : Fin 4)

/-! ## The four columns -/

theorem column_0 : val_main_v180 (F := Ideal) x2 x3 (ix3 b n 0) = val_main_v169 (F := Ideal) x2 x3 (ix2 b n) := by
  unfold val_main_v180 val_main_v179 val_main_v178 val_main_v177 val_main_v176
  pointwise

theorem column_1 : val_main_v180 (F := Ideal) x2 x3 (ix3 b n 1) = val_main_v171 (F := Ideal) x2 x3 (ix2 b n) := by
  unfold val_main_v180 val_main_v179 val_main_v178 val_main_v177 val_main_v176
  pointwise

theorem column_2 : val_main_v180 (F := Ideal) x2 x3 (ix3 b n 2) = val_main_v173 (F := Ideal) x2 x3 (ix2 b n) := by
  unfold val_main_v180 val_main_v179 val_main_v178 val_main_v177 val_main_v176
  pointwise

theorem column_3 : val_main_v180 (F := Ideal) x2 x3 (ix3 b n 3) = val_main_v175 (F := Ideal) x2 x3 (ix2 b n) := by
  unfold val_main_v180 val_main_v179 val_main_v178 val_main_v177 val_main_v176
  pointwise

/-! ## The smooth distance -/

open Classical in
theorem below_one (x a b : EReal) : Scalar.select (FloatOps.cmpf (F := Ideal) (φ := .f32) .olt x (1 : EReal)) a b = if x < 1 then a else b := by
  rw [Ideal.cmpf_def]
  unfold Scalar.select Ideal.cmp
  by_cases h : x < 1
  · rw [if_pos h]; simp only [h]; exact if_pos rfl
  · rw [if_neg h]; simp only [h]; exact if_neg (by decide)

theorem gap_at (i : S8x50000x4.Idx) : val_main_v182 (F := Ideal) x1 x2 x3 i
    = max (x1 i - val_main_v180 (F := Ideal) x2 x3 i) (-(x1 i - val_main_v180 (F := Ideal) x2 x3 i)) := by
  rw [val_main_v182_apply, val_main_v181_apply]
  rfl

theorem smooth_at (i : S8x50000x4.Idx) : val_main_v190 (F := Ideal) x1 x2 x3 i
    = Loss.smooth (x1 i) (val_main_v180 (F := Ideal) x2 x3 i) := by
  rw [val_main_v190_apply, val_main_v189_apply, val_main_v188_apply, val_main_v187_apply, val_main_v186_apply, val_main_v185_apply,
    val_main_v184_apply, val_main_v183_apply, val_main_cst_25_apply, val_main_cst_26_apply, val_main_cst_27_apply, ofBits_eq, ofBits_eq,
    Loss.bits_one, Loss.bits_half, gap_at]
  refine (below_one _ _ _).trans ?_
  unfold Loss.smooth
  generalize max (x1 i - val_main_v180 (F := Ideal) x2 x3 i) (-(x1 i - val_main_v180 (F := Ideal) x2 x3 i)) = d
  by_cases h : d < 1
  · rw [if_pos h, if_pos h]
    rfl
  · rw [if_neg h, if_neg h]
    rfl

theorem spread_box_at : val_main_v192 (F := Ideal) x2 x3 (ix3 b n k) = Loss.counted (overlaps x2 x3 b n) := by
  unfold val_main_v192 val_main_v191
  pointwise
  exact counted_at x2 x3 b n

/-- The four terms of an anchor are the kernel's distance. -/
theorem distance_at : ∑ k : Fin 4, val_main_v193 (F := Ideal) x1 x2 x3 (ix3 b n k)
    = Loss.distance (anchor x2 n) (fun k => x1 (ix3 b n k)) (targets x3 b) := by
  have e : ∀ k : Fin 4, val_main_v193 (F := Ideal) x1 x2 x3 (ix3 b n k)
      = Loss.smooth (x1 (ix3 b n k)) (val_main_v180 (F := Ideal) x2 x3 (ix3 b n k)) * Loss.counted (overlaps x2 x3 b n) := fun k => by
    rw [val_main_v193_apply, smooth_at, spread_box_at]
    rfl
  rw [Fin.sum_univ_four, e, e, e, e, column_0, column_1, column_2, column_3, aim_x_at, aim_y_at, aim_w_at, aim_h_at]
  rw [← Loss.quotients_distance]
  unfold Loss.counted
  by_cases h : Loss.half ≤ Loss.top (overlaps x2 x3 b n)
  · rw [if_pos h, if_pos h]
    simp only [mul_one]
    rfl
  · rw [if_neg h, if_neg h]
    simp only [mul_zero, add_zero]

/-- An image's regression loss. -/
theorem boxes_at : val_main_v194 (F := Ideal) x1 x2 x3 (ix1 b)
    = ∑ n, Loss.distance (anchor x2 n) (fun k => x1 (ix3 b n k)) (targets x3 b) := by
  unfold val_main_v194 val_main_cst_28
  pointwise
  refine Finset.sum_congr rfl fun n _ => ?_
  exact distance_at x1 x2 x3 b n

end Cert.ReferenceIdeal.Numbers

end
-- ==== Proof.RefValue.lean ====
/-
  The reference's three results as numbers: the same sums over anchors and classes as the kernel's.
-/
module

public import proofs.«01_k».proof.Proof.RefSmooth

@[expose] public section

set_option maxRecDepth 16384

noncomputable section

open Idealize.ShloMosaic Idealize.ShloMosaic.TcCoe Idealize.SL.Sem
open Idealize.ShloMosaic.Pointwise

namespace Cert.ReferenceIdeal.Numbers

open Cert.ReferenceIdeal Cert.ReferenceIdeal.Gen Cert.ReferenceIdeal.Read

variable (x0 : FVec Ideal S8x50000x80 .f32) (x1 : FVec Ideal S8x50000x4 .f32) (x2 : FVec Ideal S50000x4 .f32)
  (x3 : FVec Ideal S8x64x4 .f32) (x4 : IVec S8x64 32)

/-- The numbers of the reference's arguments. -/
def input : Loss.Input where
  logits b n k := x0 (ix3 b n k)
  preds b n k := x1 (ix3 b n k)
  anchors n k := x2 (ix2 n k)
  targets b g k := x3 (ix3 b g k)
  labels b g := x4 (ix2 b g)

theorem floor_at (i : S8.Idx) : val_main_v103 (F := Ideal) x2 x3 i = max 1 (val_main_v65 (F := Ideal) x2 x3 i) := by
  rw [val_main_v103_apply, val_main_v102_apply, val_main_cst_16_apply, ofBits_eq, Loss.bits_one]
  rfl

theorem floor2_at (i : S8.Idx) : val_main_v196 (F := Ideal) x2 x3 i = max 1 (val_main_v65 (F := Ideal) x2 x3 i) := by
  rw [val_main_v196_apply, val_main_v195_apply, val_main_cst_29_apply, ofBits_eq, Loss.bits_one]
  rfl

theorem sum_8 (y : FVec Ideal S8 .f32) (z : FVec Ideal S_ .f32) (hz : ∀ i, z i = (0 : EReal)) (i : S_.Idx) :
    Host.reduceAdd y z reducesTo_S8_S_d0 h_S_ i = (∑ b : Fin 8, y (ix1 b) : EReal) := by
  pointwise
  rw [hz, zero_add]

/-- The classification result. -/
theorem classes_value (h : ∀ b n k, x0 (ix3 b n k) < (⊤ : EReal)) (i : S_.Idx) : val_main_v199 (F := Ideal) x0 x2 x3 x4 i
    = (input x0 x1 x2 x3 x4).mean (input x0 x1 x2 x3 x4).classes := by
  have e : val_main_v198 (F := Ideal) x0 x2 x3 x4 i = (∑ b : Fin 8, val_main_v104 (F := Ideal) x0 x2 x3 x4 (ix1 b) : EReal) := by
    unfold val_main_v198
    refine sum_8 _ _ (fun i => ?_) i
    rw [val_main_cst_30_apply, ofBits_eq, Ideal.ofBits_zero_f32]
  have e' : ∀ b : Fin 8, val_main_v104 (F := Ideal) x0 x2 x3 x4 (ix1 b)
      = Ideal.div ((input x0 x1 x2 x3 x4).classes b) (max 1 ((input x0 x1 x2 x3 x4).count b)) := fun b => by
    rw [val_main_v104_apply, floor_at, count_at, classes_at x0 x2 x3 x4 b (h b)]
    rfl
  rw [val_main_v199_apply, e, val_main_cst_31_apply, ofBits_eq, Loss.bits_eight, Finset.sum_congr rfl fun b _ => e' b]
  rfl

/-- The regression result. -/
theorem boxes_value (i : S_.Idx) : val_main_v201 (F := Ideal) x1 x2 x3 i
    = (input x0 x1 x2 x3 x4).mean (input x0 x1 x2 x3 x4).boxes := by
  have e : val_main_v200 (F := Ideal) x1 x2 x3 i = (∑ b : Fin 8, val_main_v197 (F := Ideal) x1 x2 x3 (ix1 b) : EReal) := by
    unfold val_main_v200
    refine sum_8 _ _ (fun i => ?_) i
    rw [val_main_cst_32_apply, ofBits_eq, Ideal.ofBits_zero_f32]
  have e' : ∀ b : Fin 8, val_main_v197 (F := Ideal) x1 x2 x3 (ix1 b)
      = Ideal.div ((input x0 x1 x2 x3 x4).boxes b) (max 1 ((input x0 x1 x2 x3 x4).count b)) := fun b => by
    rw [val_main_v197_apply, floor2_at, count_at, boxes_at]
    rfl
  rw [val_main_v201_apply, e, val_main_cst_33_apply, ofBits_eq, Loss.bits_eight, Finset.sum_congr rfl fun b _ => e' b]
  rfl

/-- The total. -/
theorem total_value (h : ∀ b n k, x0 (ix3 b n k) < (⊤ : EReal)) (i : S_.Idx) : val_main_v204 (F := Ideal) x0 x1 x2 x3 x4 i
    = (input x0 x1 x2 x3 x4).mean (input x0 x1 x2 x3 x4).classes + (input x0 x1 x2 x3 x4).mean (input x0 x1 x2 x3 x4).boxes := by
  rw [val_main_v204_apply, val_main_v203_apply, val_main_v202_apply, val_main_cst_34_apply, val_main_cst_35_apply, ofBits_eq,
    Loss.bits_one, classes_value x0 x1 x2 x3 x4 h, boxes_value x0 x1 x2 x3 x4]
  show (1 : EReal) * _ + (1 : EReal) * _ = _
  rw [one_mul, one_mul]

end Cert.ReferenceIdeal.Numbers

end
-- ==== Proof.Equation.lean ====
/-
  The equation: under the precondition the kernel's three results are the reference's.
-/
module

public import proofs.«01_k».proof.Proof.KernelRun
public import proofs.«01_k».proof.Proof.KernelValue
public import proofs.«01_k».proof.Proof.RefValue
public import proofs.«01_k».proof.Proof.Pre

@[expose] public section

set_option maxRecDepth 16384

noncomputable section

open Idealize.ShloMosaic Idealize.ShloMosaic.TcCoe Idealize.SL.Sem
open Idealize.ShloMosaic.Pointwise

namespace Cert.Equation

open Cert.ReferenceIdeal.Read

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The arguments on device `c`. -/
abbrev arg0 : FVec Ideal Cert.KernelIdeal.S8x50000x80 .f32 := m ((c.tc : Thread Cert.KernelIdeal.nD Cert.KernelIdeal.τ).loc Cert.KernelIdeal.main_arg0)
abbrev arg1 : FVec Ideal Cert.KernelIdeal.S8x50000x4 .f32 := m ((c.tc : Thread Cert.KernelIdeal.nD Cert.KernelIdeal.τ).loc Cert.KernelIdeal.main_arg1)
abbrev arg2 : FVec Ideal Cert.KernelIdeal.S50000x4 .f32 := m ((c.tc : Thread Cert.KernelIdeal.nD Cert.KernelIdeal.τ).loc Cert.KernelIdeal.main_arg2)
abbrev arg3 : FVec Ideal Cert.KernelIdeal.S8x64x4 .f32 := m ((c.tc : Thread Cert.KernelIdeal.nD Cert.KernelIdeal.τ).loc Cert.KernelIdeal.main_arg3)
abbrev arg4 : IVec Cert.KernelIdeal.S8x64 32 := m ((c.tc : Thread Cert.KernelIdeal.nD Cert.KernelIdeal.τ).loc Cert.KernelIdeal.main_arg4)

/-- Both programs' arguments are the same numbers. -/
theorem input_eq : Cert.KernelIdeal.Around.input m c
    = Cert.ReferenceIdeal.Numbers.input (arg0 m c) (arg1 m c) (arg2 m c) (arg3 m c) (arg4 m c) := rfl

variable (hpre : Cert.Pre_KernelIdeal_logits_below_infinity_and_no_target_on_the_unit_box m)
include hpre

/-- No target overlaps the padding's box by a half. -/
theorem off : (Cert.KernelIdeal.Around.input m c).Off :=
  fun b g => Loss.targets_off (arg0 m c) (arg1 m c) (arg2 m c) (arg3 m c) (arg4 m c) (hpre c).2 b g

/-- No logit is plus infinity. -/
theorem below (b : Fin 8) (n : Fin 50000) (k : Fin 80) : arg0 m c (ix3 b n k) < (⊤ : EReal) :=
  Loss.logits_below (arg0 m c) (arg1 m c) (arg2 m c) (arg3 m c) (arg4 m c) (hpre c).1 b n k

/-- The total loss. -/
theorem total : Cert.KernelIdeal.Gen.W5 m ρ c (Proc.devRef .tc Cert.KernelIdeal.main_v0_0)
    = val_main_v204 (F := Ideal) (arg0 m c) (arg1 m c) (arg2 m c) (arg3 m c) (arg4 m c) := by
  funext i
  refine (Cert.KernelIdeal.Around.total_value m ρ c (off m c hpre) i).trans ?_
  rw [input_eq]
  exact (Cert.ReferenceIdeal.Numbers.total_value (arg0 m c) (arg1 m c) (arg2 m c) (arg3 m c) (arg4 m c) (below m c hpre) i).symm

/-- The mean of the classification losses. -/
theorem classes : Cert.KernelIdeal.Gen.W5 m ρ c (Proc.devRef .tc Cert.KernelIdeal.main_v0_1)
    = val_main_v199 (F := Ideal) (arg0 m c) (arg2 m c) (arg3 m c) (arg4 m c) := by
  funext i
  refine (Cert.KernelIdeal.Around.classes_value m ρ c (off m c hpre) i).trans ?_
  rw [input_eq]
  exact (Cert.ReferenceIdeal.Numbers.classes_value (arg0 m c) (arg1 m c) (arg2 m c) (arg3 m c) (arg4 m c) (below m c hpre) i).symm

/-- The mean of the box losses. -/
theorem boxes : Cert.KernelIdeal.Gen.W5 m ρ c (Proc.devRef .tc Cert.KernelIdeal.main_v0_2)
    = val_main_v201 (F := Ideal) (arg1 m c) (arg2 m c) (arg3 m c) := by
  funext i
  refine (Cert.KernelIdeal.Around.boxes_value m ρ c (off m c hpre) i).trans ?_
  rw [input_eq]
  exact (Cert.ReferenceIdeal.Numbers.boxes_value (arg0 m c) (arg1 m c) (arg2 m c) (arg3 m c) (arg4 m c) i).symm

omit hpre in
/-- Both programs run, and their results are equal. -/
theorem algebraic : Cert.algebraic_KernelIdeal_ReferenceIdeal_pre_logits_below_infinity_and_no_target_on_the_unit_box := by
  intro m ρ m' ρ' hpre hargs
  refine ⟨fun c => Cert.KernelIdeal.Gen.W5 m ρ c (Proc.devRef .tc Cert.KernelIdeal.main_v0_0),
    fun c => Cert.KernelIdeal.Gen.W5 m ρ c (Proc.devRef .tc Cert.KernelIdeal.main_v0_1),
    fun c => Cert.KernelIdeal.Gen.W5 m ρ c (Proc.devRef .tc Cert.KernelIdeal.main_v0_2),
    Cert.KernelIdeal.Around.run m ρ, ?_⟩
  refine (θ_run Cert.ReferenceIdeal.defs _ _).mono (fun r h c => ?_) (Cert.ReferenceIdeal.Value.run (F := Ideal) m' ρ')
  obtain ⟨h0, h1, h2, h3⟩ := h c
  obtain ⟨e0, e1, e2, e3, e4⟩ := hargs c
  change StableHlo.launchContents m' c (Proc.devRef .tc Cert.ReferenceIdeal.main_arg0) = arg0 m c at e0
  change StableHlo.launchContents m' c (Proc.devRef .tc Cert.ReferenceIdeal.main_arg1) = arg1 m c at e1
  change StableHlo.launchContents m' c (Proc.devRef .tc Cert.ReferenceIdeal.main_arg2) = arg2 m c at e2
  change StableHlo.launchContents m' c (Proc.devRef .tc Cert.ReferenceIdeal.main_arg3) = arg3 m c at e3
  change StableHlo.launchContents m' c (Proc.devRef .tc Cert.ReferenceIdeal.main_arg4) = arg4 m c at e4
  refine ⟨?_, ?_, ?_, h3⟩
  · refine h0.trans ((val_main_v204_eq _).trans (Eq.trans ?_ (total m ρ c hpre).symm))
    rw [e0, e1, e2, e3, e4]
  · refine h1.trans ((val_main_v199_eq _).trans (Eq.trans ?_ (classes m ρ c hpre).symm))
    rw [e0, e2, e3, e4]
  · refine h2.trans ((val_main_v201_eq _).trans (Eq.trans ?_ (boxes m ρ c hpre).symm))
    rw [e1, e2, e3]

end Cert.Equation

end
-- ==== Proof.lean ====
/- The proof of the certificate: the frames, the print and the equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_logits_below_infinity_and_no_target_on_the_unit_box
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_logits_below_infinity_and_no_target_on_the_unit_box.Gen.facts, by
  refine ⟨?_, ?_, ?_, ?_, ?_, ?_, ?_⟩
  · intro m g _; exact Cert.Kernel.Gen.frame m g
  · intro m g _; exact Cert.KernelIdeal.Gen.frame m g
  · intro m g _; exact Cert.KernelIdeal.Gen.frame m g
  · intro m g _
    exact (θ_run Cert.ReferenceIdeal.defs _ _).mono
      (fun r h => ⟨fun c => (h c).2.2.2, Idealize.ShloMosaic.sem_eq_zero_of_no_sems (by decide) r.2⟩)
      (Cert.ReferenceIdeal.Value.run (F := Ideal) m g)
  · intro m g _
    exact (θ_run Cert.ReferenceIdeal.defs _ _).mono
      (fun r h => ⟨fun c => (h c).2.2.2, Idealize.ShloMosaic.sem_eq_zero_of_no_sems (by decide) r.2⟩)
      (Cert.ReferenceIdeal.Value.run (F := Ideal) m g)
  · trivial
  · exact Cert.Equation.algebraic⟩

end Cert.Proof

end
